-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gains_in_range [hPre_gains_in_range : Cert.Pre_gains_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_gains_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gains_in_range [hPre_gains_in_range : Cert.Pre_gains_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gains_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_gains_in_range [hKernelIdeal : Cert.KernelIdeal.Facts] [hPre_gains_in_range : Cert.Pre_gains_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gains_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_gains_in_range [hReferenceIdeal : Cert.ReferenceIdeal.Facts] [hPre_gains_in_range : Cert.Pre_gains_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gains_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_gains_in_range [hKernelIdeal : Cert.KernelIdeal.Facts] [hReferenceIdeal : Cert.ReferenceIdeal.Facts] [hPre_gains_in_range : Cert.Pre_gains_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gains_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_gains_in_range : Cert.Pre_gains_in_range.Facts),
    quiescent_Kernel (hKernel := hKernel)
    ∧ quiescent_KernelIdeal (hKernelIdeal := hKernelIdeal)
    ∧ quiescent_KernelIdeal_pre_gains_in_range (hKernelIdeal := hKernelIdeal) (hPre_gains_in_range := hPre_gains_in_range)
    ∧ quiescent_ReferenceIdeal (hReferenceIdeal := hReferenceIdeal)
    ∧ quiescent_ReferenceIdeal_pre_gains_in_range (hReferenceIdeal := hReferenceIdeal) (hPre_gains_in_range := hPre_gains_in_range)
    ∧ preserves_Kernel_KernelIdeal
    ∧ algebraic_KernelIdeal_ReferenceIdeal_pre_gains_in_range (hKernelIdeal := hKernelIdeal) (hReferenceIdeal := hReferenceIdeal) (hPre_gains_in_range := hPre_gains_in_range)
-- ==== Pre_gains_in_range.lean ====
abbrev S2x8192x16384 : Shape := ⟨3, ![2, 8192, 16384]⟩
abbrev S16384 : Shape := ⟨1, ![16384]⟩
abbrev S6144x16384 : Shape := ⟨2, ![6144, 16384]⟩
abbrev S48x128 : Shape := ⟨2, ![48, 128]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S2x8192x16384 .bf16) (main_arg1 : FVec F S16384 .f32) (main_arg2 : FVec F S6144x16384 .fp8e4m3) (main_arg3 : FVec F S48x128 .f32) : IVec S_ 1 :=
  let main_v0 : FVec F S16384 .f32 := Host.absf main_arg1
  let main_cst : FVec F S_ .f32 := constant S_ .f32 0x7F000000#32
  let main_v1 : FVec F S16384 .f32 := broadcastInDim S16384 ![] bcast_S_S16384 main_cst
  let main_v2 : IVec S16384 1 := cmpf .ole main_v0 main_v1
  let main_c : IVec S_ 1 := constantI S_ 1 1#1
  let main_v3 : IVec S_ 1 := (fun x v => Host.reduce IntOp.andi x v reducesTo_S16384_S_d0 h_S_) main_v2 main_c
  main_v3
-- ==== Kernel.lean ====
abbrev S2x8192x16384 : Shape := ⟨3, ![2, 8192, 16384]⟩
abbrev S16384 : Shape := ⟨1, ![16384]⟩
abbrev S6144x16384 : Shape := ⟨2, ![6144, 16384]⟩
abbrev S48x128 : Shape := ⟨2, ![48, 128]⟩
abbrev S16384x16384 : Shape := ⟨2, ![16384, 16384]⟩
abbrev S1x16384 : Shape := ⟨2, ![1, 16384]⟩
abbrev S16384x128 : Shape := ⟨2, ![16384, 128]⟩
abbrev S128x16384 : Shape := ⟨2, ![128, 16384]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S16384x6144 : Shape := ⟨2, ![16384, 6144]⟩
abbrev S512x16384 : Shape := ⟨2, ![512, 16384]⟩
abbrev S512x512 : Shape := ⟨2, ![512, 512]⟩
abbrev S1x1 : Shape := ⟨2, ![1, 1]⟩
abbrev S128x512 : Shape := ⟨2, ![128, 512]⟩
abbrev S2x8192x6144 : Shape := ⟨3, ![2, 8192, 6144]⟩
abbrev S2x8192x128 : Shape := ⟨3, ![2, 8192, 128]⟩

abbrev nBuf : Space → Nat
  | .hbm => 13
  | .vmem => 15
  | .smem => 1
  | _ => 0

abbrev bufTy : (tb : Table) → Fin (tcTables nBuf tb) → BufTy
  | .hbm, ⟨0, _⟩ => ⟨S2x8192x16384, .bf16⟩
  | .hbm, ⟨1, _⟩ => ⟨S16384, .f32⟩
  | .hbm, ⟨2, _⟩ => ⟨S6144x16384, .fp8e4m3⟩
  | .hbm, ⟨3, _⟩ => ⟨S48x128, .f32⟩
  | .hbm, ⟨4, _⟩ => ⟨S16384x16384, .bf16⟩
  | .hbm, ⟨5, _⟩ => ⟨S1x16384, .f32⟩
  | .hbm, ⟨6, _⟩ => ⟨S16384x16384, .fp8e4m3⟩
  | .hbm, ⟨7, _⟩ => ⟨S16384x128, .f32⟩
  | .hbm, ⟨8, _⟩ => ⟨S16384x16384, .bf16⟩
  | .hbm, ⟨9, _⟩ => ⟨S16384x6144, .bf16⟩
  | .hbm, ⟨10, _⟩ => ⟨S2x8192x6144, .bf16⟩
  | .hbm, ⟨11, _⟩ => ⟨S2x8192x16384, .fp8e4m3⟩
  | .hbm, ⟨12, _⟩ => ⟨S2x8192x128, .f32⟩
  | .local _ .vmem, ⟨0, _⟩ => ⟨S128x16384, .bf16⟩
  | .local _ .vmem, ⟨1, _⟩ => ⟨S128x16384, .bf16⟩
  | .local _ .vmem, ⟨2, _⟩ => ⟨S1x16384, .f32⟩
  | .local _ .vmem, ⟨3, _⟩ => ⟨S128x16384, .fp8e4m3⟩
  | .local _ .vmem, ⟨4, _⟩ => ⟨S128x16384, .fp8e4m3⟩
  | .local _ .vmem, ⟨5, _⟩ => ⟨S128x128, .f32⟩
  | .local _ .vmem, ⟨6, _⟩ => ⟨S128x128, .f32⟩
  | .local _ .vmem, ⟨7, _⟩ => ⟨S128x16384, .bf16⟩
  | .local _ .vmem, ⟨8, _⟩ => ⟨S128x16384, .bf16⟩
  | .local _ .vmem, ⟨9, _⟩ => ⟨S512x16384, .bf16⟩
  | .local _ .vmem, ⟨10, _⟩ => ⟨S512x16384, .bf16⟩
  | .local _ .vmem, ⟨11, _⟩ => ⟨S512x16384, .fp8e4m3⟩
  | .local _ .vmem, ⟨12, _⟩ => ⟨S512x16384, .fp8e4m3⟩
  | .local _ .vmem, ⟨13, _⟩ => ⟨S512x512, .bf16⟩
  | .local _ .vmem, ⟨14, _⟩ => ⟨S512x512, .bf16⟩
  | .local _ .smem, ⟨0, _⟩ => ⟨S48x128, .f32⟩
  | _, _ => ⟨S2x8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x16384 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x16384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![32, 12], ![false, false]⟩

def k1_off1 (i : grid1.Coords) (c0_i32 : BitVec 32) : Fin 2 → Nat :=
  let arg1 : BitVec 32 := BitVec.ofNat 32 (i 1).val
  let c4_i32 : BitVec 32 := 4#32
  let v1 : BitVec 32 := Scalar.muli arg1 c4_i32
  let v2 : BitVec 32 := Scalar.addi v1 c0_i32
  let v3 : Index := Scalar.indexCast v2
  let c0 : Index := 0#32
  ![v3.toNat, 0]
def k1_off2 (i : grid1.Coords) (c0_i32_3 : BitVec 32) : Fin 2 → Nat :=
  let arg1 : BitVec 32 := BitVec.ofNat 32 (i 1).val
  let c4_i32_2 : BitVec 32 := 4#32
  let v10 : BitVec 32 := Scalar.muli arg1 c4_i32_2
  let v11 : BitVec 32 := Scalar.addi v10 c0_i32_3
  let v12 : Index := Scalar.indexCast v11
  let c1 : Index := 1#32
  ![v12.toNat, 1]
def k1_off3 (i : grid1.Coords) (c0_i32_6 : BitVec 32) : Fin 2 → Nat :=
  let arg1 : BitVec 32 := BitVec.ofNat 32 (i 1).val
  let c4_i32_5 : BitVec 32 := 4#32
  let v19 : BitVec 32 := Scalar.muli arg1 c4_i32_5
  let v20 : BitVec 32 := Scalar.addi v19 c0_i32_6
  let v21 : Index := Scalar.indexCast v20
  let c2 : Index := 2#32
  ![v21.toNat, 2]
def k1_off4 (i : grid1.Coords) (c0_i32_9 : BitVec 32) : Fin 2 → Nat :=
  let arg1 : BitVec 32 := BitVec.ofNat 32 (i 1).val
  let c4_i32_8 : BitVec 32 := 4#32
  let v28 : BitVec 32 := Scalar.muli arg1 c4_i32_8
  let v29 : BitVec 32 := Scalar.addi v28 c0_i32_9
  let v30 : Index := Scalar.indexCast v29
  let c3 : Index := 3#32
  ![v30.toNat, 3]
def k1_off5 (i : grid1.Coords) (c0_i32_72 : BitVec 32) : Fin 2 → Nat :=
  let arg1 : BitVec 32 := BitVec.ofNat 32 (i 1).val
  let c4_i32_71 : BitVec 32 := 4#32
  let v154 : BitVec 32 := Scalar.muli arg1 c4_i32_71
  let v155 : BitVec 32 := Scalar.addi v154 c0_i32_72
  let v156 : Index := Scalar.indexCast v155
  let c4 : Index := 4#32
  ![v156.toNat, 4]
def k1_off6 (i : grid1.Coords) (c0_i32_75 : BitVec 32) : Fin 2 → Nat :=
  let arg1 : BitVec 32 := BitVec.ofNat 32 (i 1).val
  let c4_i32_74 : BitVec 32 := 4#32
  let v163 : BitVec 32 := Scalar.muli arg1 c4_i32_74
  let v164 : BitVec 32 := Scalar.addi v163 c0_i32_75
  let v165 : Index := Scalar.indexCast v164
  let c5 : Index := 5#32
  ![v165.toNat, 5]
def k1_off7 (i : grid1.Coords) (c0_i32_78 : BitVec 32) : Fin 2 → Nat :=
  let arg1 : BitVec 32 := BitVec.ofNat 32 (i 1).val
  let c4_i32_77 : BitVec 32 := 4#32
  let v172 : BitVec 32 := Scalar.muli arg1 c4_i32_77
  let v173 : BitVec 32 := Scalar.addi v172 c0_i32_78
  let v174 : Index := Scalar.indexCast v173
  let c6 : Index := 6#32
  ![v174.toNat, 6]
def k1_off8 (i : grid1.Coords) (c0_i32_81 : BitVec 32) : Fin 2 → Nat :=
  let arg1 : BitVec 32 := BitVec.ofNat 32 (i 1).val
  let c4_i32_80 : BitVec 32 := 4#32
  let v181 : BitVec 32 := Scalar.muli arg1 c4_i32_80
  let v182 : BitVec 32 := Scalar.addi v181 c0_i32_81
  let v183 : Index := Scalar.indexCast v182
  let c7 : Index := 7#32
  ![v183.toNat, 7]
def k1_off9 (i : grid1.Coords) (c0_i32_147 : BitVec 32) : Fin 2 → Nat :=
  let arg1 : BitVec 32 := BitVec.ofNat 32 (i 1).val
  let c4_i32_146 : BitVec 32 := 4#32
  let v307 : BitVec 32 := Scalar.muli arg1 c4_i32_146
  let v308 : BitVec 32 := Scalar.addi v307 c0_i32_147
  let v309 : Index := Scalar.indexCast v308
  let c8 : Index := 8#32
  ![v309.toNat, 8]
def k1_off10 (i : grid1.Coords) (c0_i32_150 : BitVec 32) : Fin 2 → Nat :=
  let arg1 : BitVec 32 := BitVec.ofNat 32 (i 1).val
  let c4_i32_149 : BitVec 32 := 4#32
  let v316 : BitVec 32 := Scalar.muli arg1 c4_i32_149
  let v317 : BitVec 32 := Scalar.addi v316 c0_i32_150
  let v318 : Index := Scalar.indexCast v317
  let c9 : Index := 9#32
  ![v318.toNat, 9]
def k1_off11 (i : grid1.Coords) (c0_i32_153 : BitVec 32) : Fin 2 → Nat :=
  let arg1 : BitVec 32 := BitVec.ofNat 32 (i 1).val
  let c4_i32_152 : BitVec 32 := 4#32
  let v325 : BitVec 32 := Scalar.muli arg1 c4_i32_152
  let v326 : BitVec 32 := Scalar.addi v325 c0_i32_153
  let v327 : Index := Scalar.indexCast v326
  let c10 : Index := 10#32
  ![v327.toNat, 10]
def k1_off12 (i : grid1.Coords) (c0_i32_156 : BitVec 32) : Fin 2 → Nat :=
  let arg1 : BitVec 32 := BitVec.ofNat 32 (i 1).val
  let c4_i32_155 : BitVec 32 := 4#32
  let v334 : BitVec 32 := Scalar.muli arg1 c4_i32_155
  let v335 : BitVec 32 := Scalar.addi v334 c0_i32_156
  let v336 : Index := Scalar.indexCast v335
  let c11 : Index := 11#32
  ![v336.toNat, 11]
def k1_off13 (i : grid1.Coords) (c0_i32_222 : BitVec 32) : Fin 2 → Nat :=
  let arg1 : BitVec 32 := BitVec.ofNat 32 (i 1).val
  let c4_i32_221 : BitVec 32 := 4#32
  let v460 : BitVec 32 := Scalar.muli arg1 c4_i32_221
  let v461 : BitVec 32 := Scalar.addi v460 c0_i32_222
  let v462 : Index := Scalar.indexCast v461
  let c12 : Index := 12#32
  ![v462.toNat, 12]
def k1_off14 (i : grid1.Coords) (c0_i32_225 : BitVec 32) : Fin 2 → Nat :=
  let arg1 : BitVec 32 := BitVec.ofNat 32 (i 1).val
  let c4_i32_224 : BitVec 32 := 4#32
  let v469 : BitVec 32 := Scalar.muli arg1 c4_i32_224
  let v470 : BitVec 32 := Scalar.addi v469 c0_i32_225
  let v471 : Index := Scalar.indexCast v470
  let c13 : Index := 13#32
  ![v471.toNat, 13]
def k1_off15 (i : grid1.Coords) (c0_i32_228 : BitVec 32) : Fin 2 → Nat :=
  let arg1 : BitVec 32 := BitVec.ofNat 32 (i 1).val
  let c4_i32_227 : BitVec 32 := 4#32
  let v478 : BitVec 32 := Scalar.muli arg1 c4_i32_227
  let v479 : BitVec 32 := Scalar.addi v478 c0_i32_228
  let v480 : Index := Scalar.indexCast v479
  let c14 : Index := 14#32
  ![v480.toNat, 14]
def k1_off16 (i : grid1.Coords) (c0_i32_231 : BitVec 32) : Fin 2 → Nat :=
  let arg1 : BitVec 32 := BitVec.ofNat 32 (i 1).val
  let c4_i32_230 : BitVec 32 := 4#32
  let v487 : BitVec 32 := Scalar.muli arg1 c4_i32_230
  let v488 : BitVec 32 := Scalar.addi v487 c0_i32_231
  let v489 : Index := Scalar.indexCast v488
  let c15 : Index := 15#32
  ![v489.toNat, 15]
def k1_off17 (i : grid1.Coords) (c0_i32_297 : BitVec 32) : Fin 2 → Nat :=
  let arg1 : BitVec 32 := BitVec.ofNat 32 (i 1).val
  let c4_i32_296 : BitVec 32 := 4#32
  let v613 : BitVec 32 := Scalar.muli arg1 c4_i32_296
  let v614 : BitVec 32 := Scalar.addi v613 c0_i32_297
  let v615 : Index := Scalar.indexCast v614
  let c16 : Index := 16#32
  ![v615.toNat, 16]
def k1_off18 (i : grid1.Coords) (c0_i32_300 : BitVec 32) : Fin 2 → Nat :=
  let arg1 : BitVec 32 := BitVec.ofNat 32 (i 1).val
  let c4_i32_299 : BitVec 32 := 4#32
  let v622 : BitVec 32 := Scalar.muli arg1 c4_i32_299
  let v623 : BitVec 32 := Scalar.addi v622 c0_i32_300
  let v624 : Index := Scalar.indexCast v623
  let c17 : Index := 17#32
  ![v624.toNat, 17]
def k1_off19 (i : grid1.Coords) (c0_i32_303 : BitVec 32) : Fin 2 → Nat :=
  let arg1 : BitVec 32 := BitVec.ofNat 32 (i 1).val
  let c4_i32_302 : BitVec 32 := 4#32
  let v631 : BitVec 32 := Scalar.muli arg1 c4_i32_302
  let v632 : BitVec 32 := Scalar.addi v631 c0_i32_303
  let v633 : Index := Scalar.indexCast v632
  let c18 : Index := 18#32
  ![v633.toNat, 18]
def k1_off20 (i : grid1.Coords) (c0_i32_306 : BitVec 32) : Fin 2 → Nat :=
  let arg1 : BitVec 32 := BitVec.ofNat 32 (i 1).val
  let c4_i32_305 : BitVec 32 := 4#32
  let v640 : BitVec 32 := Scalar.muli arg1 c4_i32_305
  let v641 : BitVec 32 := Scalar.addi v640 c0_i32_306
  let v642 : Index := Scalar.indexCast v641
  let c19 : Index := 19#32
  ![v642.toNat, 19]
def k1_off21 (i : grid1.Coords) (c0_i32_372 : BitVec 32) : Fin 2 → Nat :=
  let arg1 : BitVec 32 := BitVec.ofNat 32 (i 1).val
  let c4_i32_371 : BitVec 32 := 4#32
  let v766 : BitVec 32 := Scalar.muli arg1 c4_i32_371
  let v767 : BitVec 32 := Scalar.addi v766 c0_i32_372
  let v768 : Index := Scalar.indexCast v767
  let c20 : Index := 20#32
  ![v768.toNat, 20]
def k1_off22 (i : grid1.Coords) (c0_i32_375 : BitVec 32) : Fin 2 → Nat :=
  let arg1 : BitVec 32 := BitVec.ofNat 32 (i 1).val
  let c4_i32_374 : BitVec 32 := 4#32
  let v775 : BitVec 32 := Scalar.muli arg1 c4_i32_374
  let v776 : BitVec 32 := Scalar.addi v775 c0_i32_375
  let v777 : Index := Scalar.indexCast v776
  let c21 : Index := 21#32
  ![v777.toNat, 21]
def k1_off23 (i : grid1.Coords) (c0_i32_378 : BitVec 32) : Fin 2 → Nat :=
  let arg1 : BitVec 32 := BitVec.ofNat 32 (i 1).val
  let c4_i32_377 : BitVec 32 := 4#32
  let v784 : BitVec 32 := Scalar.muli arg1 c4_i32_377
  let v785 : BitVec 32 := Scalar.addi v784 c0_i32_378
  let v786 : Index := Scalar.indexCast v785
  let c22 : Index := 22#32
  ![v786.toNat, 22]
def k1_off24 (i : grid1.Coords) (c0_i32_381 : BitVec 32) : Fin 2 → Nat :=
  let arg1 : BitVec 32 := BitVec.ofNat 32 (i 1).val
  let c4_i32_380 : BitVec 32 := 4#32
  let v793 : BitVec 32 := Scalar.muli arg1 c4_i32_380
  let v794 : BitVec 32 := Scalar.addi v793 c0_i32_381
  let v795 : Index := Scalar.indexCast v794
  let c23 : Index := 23#32
  ![v795.toNat, 23]
def k1_off25 (i : grid1.Coords) (c0_i32_447 : BitVec 32) : Fin 2 → Nat :=
  let arg1 : BitVec 32 := BitVec.ofNat 32 (i 1).val
  let c4_i32_446 : BitVec 32 := 4#32
  let v919 : BitVec 32 := Scalar.muli arg1 c4_i32_446
  let v920 : BitVec 32 := Scalar.addi v919 c0_i32_447
  let v921 : Index := Scalar.indexCast v920
  let c24 : Index := 24#32
  ![v921.toNat, 24]
def k1_off26 (i : grid1.Coords) (c0_i32_450 : BitVec 32) : Fin 2 → Nat :=
  let arg1 : BitVec 32 := BitVec.ofNat 32 (i 1).val
  let c4_i32_449 : BitVec 32 := 4#32
  let v928 : BitVec 32 := Scalar.muli arg1 c4_i32_449
  let v929 : BitVec 32 := Scalar.addi v928 c0_i32_450
  let v930 : Index := Scalar.indexCast v929
  let c25 : Index := 25#32
  ![v930.toNat, 25]
def k1_off27 (i : grid1.Coords) (c0_i32_453 : BitVec 32) : Fin 2 → Nat :=
  let arg1 : BitVec 32 := BitVec.ofNat 32 (i 1).val
  let c4_i32_452 : BitVec 32 := 4#32
  let v937 : BitVec 32 := Scalar.muli arg1 c4_i32_452
  let v938 : BitVec 32 := Scalar.addi v937 c0_i32_453
  let v939 : Index := Scalar.indexCast v938
  let c26 : Index := 26#32
  ![v939.toNat, 26]
def k1_off28 (i : grid1.Coords) (c0_i32_456 : BitVec 32) : Fin 2 → Nat :=
  let arg1 : BitVec 32 := BitVec.ofNat 32 (i 1).val
  let c4_i32_455 : BitVec 32 := 4#32
  let v946 : BitVec 32 := Scalar.muli arg1 c4_i32_455
  let v947 : BitVec 32 := Scalar.addi v946 c0_i32_456
  let v948 : Index := Scalar.indexCast v947
  let c27 : Index := 27#32
  ![v948.toNat, 27]
def k1_off29 (i : grid1.Coords) (c0_i32_522 : BitVec 32) : Fin 2 → Nat :=
  let arg1 : BitVec 32 := BitVec.ofNat 32 (i 1).val
  let c4_i32_521 : BitVec 32 := 4#32
  let v1072 : BitVec 32 := Scalar.muli arg1 c4_i32_521
  let v1073 : BitVec 32 := Scalar.addi v1072 c0_i32_522
  let v1074 : Index := Scalar.indexCast v1073
  let c28 : Index := 28#32
  ![v1074.toNat, 28]
def k1_off30 (i : grid1.Coords) (c0_i32_525 : BitVec 32) : Fin 2 → Nat :=
  let arg1 : BitVec 32 := BitVec.ofNat 32 (i 1).val
  let c4_i32_524 : BitVec 32 := 4#32
  let v1081 : BitVec 32 := Scalar.muli arg1 c4_i32_524
  let v1082 : BitVec 32 := Scalar.addi v1081 c0_i32_525
  let v1083 : Index := Scalar.indexCast v1082
  let c29 : Index := 29#32
  ![v1083.toNat, 29]
def k1_off31 (i : grid1.Coords) (c0_i32_528 : BitVec 32) : Fin 2 → Nat :=
  let arg1 : BitVec 32 := BitVec.ofNat 32 (i 1).val
  let c4_i32_527 : BitVec 32 := 4#32
  let v1090 : BitVec 32 := Scalar.muli arg1 c4_i32_527
  let v1091 : BitVec 32 := Scalar.addi v1090 c0_i32_528
  let v1092 : Index := Scalar.indexCast v1091
  let c30 : Index := 30#32
  ![v1092.toNat, 30]
def k1_off32 (i : grid1.Coords) (c0_i32_531 : BitVec 32) : Fin 2 → Nat :=
  let arg1 : BitVec 32 := BitVec.ofNat 32 (i 1).val
  let c4_i32_530 : BitVec 32 := 4#32
  let v1099 : BitVec 32 := Scalar.muli arg1 c4_i32_530
  let v1100 : BitVec 32 := Scalar.addi v1099 c0_i32_531
  let v1101 : Index := Scalar.indexCast v1100
  let c31 : Index := 31#32
  ![v1101.toNat, 31]
def k1_off33 (i : grid1.Coords) (c0_i32_597 : BitVec 32) : Fin 2 → Nat :=
  let arg1 : BitVec 32 := BitVec.ofNat 32 (i 1).val
  let c4_i32_596 : BitVec 32 := 4#32
  let v1225 : BitVec 32 := Scalar.muli arg1 c4_i32_596
  let v1226 : BitVec 32 := Scalar.addi v1225 c0_i32_597
  let v1227 : Index := Scalar.indexCast v1226
  let c32 : Index := 32#32
  ![v1227.toNat, 32]
def k1_off34 (i : grid1.Coords) (c0_i32_600 : BitVec 32) : Fin 2 → Nat :=
  let arg1 : BitVec 32 := BitVec.ofNat 32 (i 1).val
  let c4_i32_599 : BitVec 32 := 4#32
  let v1234 : BitVec 32 := Scalar.muli arg1 c4_i32_599
  let v1235 : BitVec 32 := Scalar.addi v1234 c0_i32_600
  let v1236 : Index := Scalar.indexCast v1235
  let c33 : Index := 33#32
  ![v1236.toNat, 33]
def k1_off35 (i : grid1.Coords) (c0_i32_603 : BitVec 32) : Fin 2 → Nat :=
  let arg1 : BitVec 32 := BitVec.ofNat 32 (i 1).val
  let c4_i32_602 : BitVec 32 := 4#32
  let v1243 : BitVec 32 := Scalar.muli arg1 c4_i32_602
  let v1244 : BitVec 32 := Scalar.addi v1243 c0_i32_603
  let v1245 : Index := Scalar.indexCast v1244
  let c34 : Index := 34#32
  ![v1245.toNat, 34]
def k1_off36 (i : grid1.Coords) (c0_i32_606 : BitVec 32) : Fin 2 → Nat :=
  let arg1 : BitVec 32 := BitVec.ofNat 32 (i 1).val
  let c4_i32_605 : BitVec 32 := 4#32
  let v1252 : BitVec 32 := Scalar.muli arg1 c4_i32_605
  let v1253 : BitVec 32 := Scalar.addi v1252 c0_i32_606
  let v1254 : Index := Scalar.indexCast v1253
  let c35 : Index := 35#32
  ![v1254.toNat, 35]
def k1_off37 (i : grid1.Coords) (c0_i32_672 : BitVec 32) : Fin 2 → Nat :=
  let arg1 : BitVec 32 := BitVec.ofNat 32 (i 1).val
  let c4_i32_671 : BitVec 32 := 4#32
  let v1378 : BitVec 32 := Scalar.muli arg1 c4_i32_671
  let v1379 : BitVec 32 := Scalar.addi v1378 c0_i32_672
  let v1380 : Index := Scalar.indexCast v1379
  let c36 : Index := 36#32
  ![v1380.toNat, 36]
def k1_off38 (i : grid1.Coords) (c0_i32_675 : BitVec 32) : Fin 2 → Nat :=
  let arg1 : BitVec 32 := BitVec.ofNat 32 (i 1).val
  let c4_i32_674 : BitVec 32 := 4#32
  let v1387 : BitVec 32 := Scalar.muli arg1 c4_i32_674
  let v1388 : BitVec 32 := Scalar.addi v1387 c0_i32_675
  let v1389 : Index := Scalar.indexCast v1388
  let c37 : Index := 37#32
  ![v1389.toNat, 37]
def k1_off39 (i : grid1.Coords) (c0_i32_678 : BitVec 32) : Fin 2 → Nat :=
  let arg1 : BitVec 32 := BitVec.ofNat 32 (i 1).val
  let c4_i32_677 : BitVec 32 := 4#32
  let v1396 : BitVec 32 := Scalar.muli arg1 c4_i32_677
  let v1397 : BitVec 32 := Scalar.addi v1396 c0_i32_678
  let v1398 : Index := Scalar.indexCast v1397
  let c38 : Index := 38#32
  ![v1398.toNat, 38]
def k1_off40 (i : grid1.Coords) (c0_i32_681 : BitVec 32) : Fin 2 → Nat :=
  let arg1 : BitVec 32 := BitVec.ofNat 32 (i 1).val
  let c4_i32_680 : BitVec 32 := 4#32
  let v1405 : BitVec 32 := Scalar.muli arg1 c4_i32_680
  let v1406 : BitVec 32 := Scalar.addi v1405 c0_i32_681
  let v1407 : Index := Scalar.indexCast v1406
  let c39 : Index := 39#32
  ![v1407.toNat, 39]
def k1_off41 (i : grid1.Coords) (c0_i32_747 : BitVec 32) : Fin 2 → Nat :=
  let arg1 : BitVec 32 := BitVec.ofNat 32 (i 1).val
  let c4_i32_746 : BitVec 32 := 4#32
  let v1531 : BitVec 32 := Scalar.muli arg1 c4_i32_746
  let v1532 : BitVec 32 := Scalar.addi v1531 c0_i32_747
  let v1533 : Index := Scalar.indexCast v1532
  let c40 : Index := 40#32
  ![v1533.toNat, 40]
def k1_off42 (i : grid1.Coords) (c0_i32_750 : BitVec 32) : Fin 2 → Nat :=
  let arg1 : BitVec 32 := BitVec.ofNat 32 (i 1).val
  let c4_i32_749 : BitVec 32 := 4#32
  let v1540 : BitVec 32 := Scalar.muli arg1 c4_i32_749
  let v1541 : BitVec 32 := Scalar.addi v1540 c0_i32_750
  let v1542 : Index := Scalar.indexCast v1541
  let c41 : Index := 41#32
  ![v1542.toNat, 41]
def k1_off43 (i : grid1.Coords) (c0_i32_753 : BitVec 32) : Fin 2 → Nat :=
  let arg1 : BitVec 32 := BitVec.ofNat 32 (i 1).val
  let c4_i32_752 : BitVec 32 := 4#32
  let v1549 : BitVec 32 := Scalar.muli arg1 c4_i32_752
  let v1550 : BitVec 32 := Scalar.addi v1549 c0_i32_753
  let v1551 : Index := Scalar.indexCast v1550
  let c42 : Index := 42#32
  ![v1551.toNat, 42]
def k1_off44 (i : grid1.Coords) (c0_i32_756 : BitVec 32) : Fin 2 → Nat :=
  let arg1 : BitVec 32 := BitVec.ofNat 32 (i 1).val
  let c4_i32_755 : BitVec 32 := 4#32
  let v1558 : BitVec 32 := Scalar.muli arg1 c4_i32_755
  let v1559 : BitVec 32 := Scalar.addi v1558 c0_i32_756
  let v1560 : Index := Scalar.indexCast v1559
  let c43 : Index := 43#32
  ![v1560.toNat, 43]
def k1_off45 (i : grid1.Coords) (c0_i32_822 : BitVec 32) : Fin 2 → Nat :=
  let arg1 : BitVec 32 := BitVec.ofNat 32 (i 1).val
  let c4_i32_821 : BitVec 32 := 4#32
  let v1684 : BitVec 32 := Scalar.muli arg1 c4_i32_821
  let v1685 : BitVec 32 := Scalar.addi v1684 c0_i32_822
  let v1686 : Index := Scalar.indexCast v1685
  let c44 : Index := 44#32
  ![v1686.toNat, 44]
def k1_off46 (i : grid1.Coords) (c0_i32_825 : BitVec 32) : Fin 2 → Nat :=
  let arg1 : BitVec 32 := BitVec.ofNat 32 (i 1).val
  let c4_i32_824 : BitVec 32 := 4#32
  let v1693 : BitVec 32 := Scalar.muli arg1 c4_i32_824
  let v1694 : BitVec 32 := Scalar.addi v1693 c0_i32_825
  let v1695 : Index := Scalar.indexCast v1694
  let c45 : Index := 45#32
  ![v1695.toNat, 45]
def k1_off47 (i : grid1.Coords) (c0_i32_828 : BitVec 32) : Fin 2 → Nat :=
  let arg1 : BitVec 32 := BitVec.ofNat 32 (i 1).val
  let c4_i32_827 : BitVec 32 := 4#32
  let v1702 : BitVec 32 := Scalar.muli arg1 c4_i32_827
  let v1703 : BitVec 32 := Scalar.addi v1702 c0_i32_828
  let v1704 : Index := Scalar.indexCast v1703
  let c46 : Index := 46#32
  ![v1704.toNat, 46]
def k1_off48 (i : grid1.Coords) (c0_i32_831 : BitVec 32) : Fin 2 → Nat :=
  let arg1 : BitVec 32 := BitVec.ofNat 32 (i 1).val
  let c4_i32_830 : BitVec 32 := 4#32
  let v1711 : BitVec 32 := Scalar.muli arg1 c4_i32_830
  let v1712 : BitVec 32 := Scalar.addi v1711 c0_i32_831
  let v1713 : Index := Scalar.indexCast v1712
  let c47 : Index := 47#32
  ![v1713.toNat, 47]
def k1_off49 (i : grid1.Coords) (c0_i32_897 : BitVec 32) : Fin 2 → Nat :=
  let arg1 : BitVec 32 := BitVec.ofNat 32 (i 1).val
  let c4_i32_896 : BitVec 32 := 4#32
  let v1837 : BitVec 32 := Scalar.muli arg1 c4_i32_896
  let v1838 : BitVec 32 := Scalar.addi v1837 c0_i32_897
  let v1839 : Index := Scalar.indexCast v1838
  let c48 : Index := 48#32
  ![v1839.toNat, 48]
def k1_off50 (i : grid1.Coords) (c0_i32_900 : BitVec 32) : Fin 2 → Nat :=
  let arg1 : BitVec 32 := BitVec.ofNat 32 (i 1).val
  let c4_i32_899 : BitVec 32 := 4#32
  let v1846 : BitVec 32 := Scalar.muli arg1 c4_i32_899
  let v1847 : BitVec 32 := Scalar.addi v1846 c0_i32_900
  let v1848 : Index := Scalar.indexCast v1847
  let c49 : Index := 49#32
  ![v1848.toNat, 49]
def k1_off51 (i : grid1.Coords) (c0_i32_903 : BitVec 32) : Fin 2 → Nat :=
  let arg1 : BitVec 32 := BitVec.ofNat 32 (i 1).val
  let c4_i32_902 : BitVec 32 := 4#32
  let v1855 : BitVec 32 := Scalar.muli arg1 c4_i32_902
  let v1856 : BitVec 32 := Scalar.addi v1855 c0_i32_903
  let v1857 : Index := Scalar.indexCast v1856
  let c50 : Index := 50#32
  ![v1857.toNat, 50]
def k1_off52 (i : grid1.Coords) (c0_i32_906 : BitVec 32) : Fin 2 → Nat :=
  let arg1 : BitVec 32 := BitVec.ofNat 32 (i 1).val
  let c4_i32_905 : BitVec 32 := 4#32
  let v1864 : BitVec 32 := Scalar.muli arg1 c4_i32_905
  let v1865 : BitVec 32 := Scalar.addi v1864 c0_i32_906
  let v1866 : Index := Scalar.indexCast v1865
  let c51 : Index := 51#32
  ![v1866.toNat, 51]
def k1_off53 (i : grid1.Coords) (c0_i32_972 : BitVec 32) : Fin 2 → Nat :=
  let arg1 : BitVec 32 := BitVec.ofNat 32 (i 1).val
  let c4_i32_971 : BitVec 32 := 4#32
  let v1990 : BitVec 32 := Scalar.muli arg1 c4_i32_971
  let v1991 : BitVec 32 := Scalar.addi v1990 c0_i32_972
  let v1992 : Index := Scalar.indexCast v1991
  let c52 : Index := 52#32
  ![v1992.toNat, 52]
def k1_off54 (i : grid1.Coords) (c0_i32_975 : BitVec 32) : Fin 2 → Nat :=
  let arg1 : BitVec 32 := BitVec.ofNat 32 (i 1).val
  let c4_i32_974 : BitVec 32 := 4#32
  let v1999 : BitVec 32 := Scalar.muli arg1 c4_i32_974
  let v2000 : BitVec 32 := Scalar.addi v1999 c0_i32_975
  let v2001 : Index := Scalar.indexCast v2000
  let c53 : Index := 53#32
  ![v2001.toNat, 53]
def k1_off55 (i : grid1.Coords) (c0_i32_978 : BitVec 32) : Fin 2 → Nat :=
  let arg1 : BitVec 32 := BitVec.ofNat 32 (i 1).val
  let c4_i32_977 : BitVec 32 := 4#32
  let v2008 : BitVec 32 := Scalar.muli arg1 c4_i32_977
  let v2009 : BitVec 32 := Scalar.addi v2008 c0_i32_978
  let v2010 : Index := Scalar.indexCast v2009
  let c54 : Index := 54#32
  ![v2010.toNat, 54]
def k1_off56 (i : grid1.Coords) (c0_i32_981 : BitVec 32) : Fin 2 → Nat :=
  let arg1 : BitVec 32 := BitVec.ofNat 32 (i 1).val
  let c4_i32_980 : BitVec 32 := 4#32
  let v2017 : BitVec 32 := Scalar.muli arg1 c4_i32_980
  let v2018 : BitVec 32 := Scalar.addi v2017 c0_i32_981
  let v2019 : Index := Scalar.indexCast v2018
  let c55 : Index := 55#32
  ![v2019.toNat, 55]
def k1_off57 (i : grid1.Coords) (c0_i32_1047 : BitVec 32) : Fin 2 → Nat :=
  let arg1 : BitVec 32 := BitVec.ofNat 32 (i 1).val
  let c4_i32_1046 : BitVec 32 := 4#32
  let v2143 : BitVec 32 := Scalar.muli arg1 c4_i32_1046
  let v2144 : BitVec 32 := Scalar.addi v2143 c0_i32_1047
  let v2145 : Index := Scalar.indexCast v2144
  let c56 : Index := 56#32
  ![v2145.toNat, 56]
def k1_off58 (i : grid1.Coords) (c0_i32_1050 : BitVec 32) : Fin 2 → Nat :=
  let arg1 : BitVec 32 := BitVec.ofNat 32 (i 1).val
  let c4_i32_1049 : BitVec 32 := 4#32
  let v2152 : BitVec 32 := Scalar.muli arg1 c4_i32_1049
  let v2153 : BitVec 32 := Scalar.addi v2152 c0_i32_1050
  let v2154 : Index := Scalar.indexCast v2153
  let c57 : Index := 57#32
  ![v2154.toNat, 57]
def k1_off59 (i : grid1.Coords) (c0_i32_1053 : BitVec 32) : Fin 2 → Nat :=
  let arg1 : BitVec 32 := BitVec.ofNat 32 (i 1).val
  let c4_i32_1052 : BitVec 32 := 4#32
  let v2161 : BitVec 32 := Scalar.muli arg1 c4_i32_1052
  let v2162 : BitVec 32 := Scalar.addi v2161 c0_i32_1053
  let v2163 : Index := Scalar.indexCast v2162
  let c58 : Index := 58#32
  ![v2163.toNat, 58]
def k1_off60 (i : grid1.Coords) (c0_i32_1056 : BitVec 32) : Fin 2 → Nat :=
  let arg1 : BitVec 32 := BitVec.ofNat 32 (i 1).val
  let c4_i32_1055 : BitVec 32 := 4#32
  let v2170 : BitVec 32 := Scalar.muli arg1 c4_i32_1055
  let v2171 : BitVec 32 := Scalar.addi v2170 c0_i32_1056
  let v2172 : Index := Scalar.indexCast v2171
  let c59 : Index := 59#32
  ![v2172.toNat, 59]
def k1_off61 (i : grid1.Coords) (c0_i32_1122 : BitVec 32) : Fin 2 → Nat :=
  let arg1 : BitVec 32 := BitVec.ofNat 32 (i 1).val
  let c4_i32_1121 : BitVec 32 := 4#32
  let v2296 : BitVec 32 := Scalar.muli arg1 c4_i32_1121
  let v2297 : BitVec 32 := Scalar.addi v2296 c0_i32_1122
  let v2298 : Index := Scalar.indexCast v2297
  let c60 : Index := 60#32
  ![v2298.toNat, 60]
def k1_off62 (i : grid1.Coords) (c0_i32_1125 : BitVec 32) : Fin 2 → Nat :=
  let arg1 : BitVec 32 := BitVec.ofNat 32 (i 1).val
  let c4_i32_1124 : BitVec 32 := 4#32
  let v2305 : BitVec 32 := Scalar.muli arg1 c4_i32_1124
  let v2306 : BitVec 32 := Scalar.addi v2305 c0_i32_1125
  let v2307 : Index := Scalar.indexCast v2306
  let c61 : Index := 61#32
  ![v2307.toNat, 61]
def k1_off63 (i : grid1.Coords) (c0_i32_1128 : BitVec 32) : Fin 2 → Nat :=
  let arg1 : BitVec 32 := BitVec.ofNat 32 (i 1).val
  let c4_i32_1127 : BitVec 32 := 4#32
  let v2314 : BitVec 32 := Scalar.muli arg1 c4_i32_1127
  let v2315 : BitVec 32 := Scalar.addi v2314 c0_i32_1128
  let v2316 : Index := Scalar.indexCast v2315
  let c62 : Index := 62#32
  ![v2316.toNat, 62]
def k1_off64 (i : grid1.Coords) (c0_i32_1131 : BitVec 32) : Fin 2 → Nat :=
  let arg1 : BitVec 32 := BitVec.ofNat 32 (i 1).val
  let c4_i32_1130 : BitVec 32 := 4#32
  let v2323 : BitVec 32 := Scalar.muli arg1 c4_i32_1130
  let v2324 : BitVec 32 := Scalar.addi v2323 c0_i32_1131
  let v2325 : Index := Scalar.indexCast v2324
  let c63 : Index := 63#32
  ![v2325.toNat, 63]
def k1_off65 (i : grid1.Coords) (c0_i32_1197 : BitVec 32) : Fin 2 → Nat :=
  let arg1 : BitVec 32 := BitVec.ofNat 32 (i 1).val
  let c4_i32_1196 : BitVec 32 := 4#32
  let v2449 : BitVec 32 := Scalar.muli arg1 c4_i32_1196
  let v2450 : BitVec 32 := Scalar.addi v2449 c0_i32_1197
  let v2451 : Index := Scalar.indexCast v2450
  let c64 : Index := 64#32
  ![v2451.toNat, 64]
def k1_off66 (i : grid1.Coords) (c0_i32_1200 : BitVec 32) : Fin 2 → Nat :=
  let arg1 : BitVec 32 := BitVec.ofNat 32 (i 1).val
  let c4_i32_1199 : BitVec 32 := 4#32
  let v2458 : BitVec 32 := Scalar.muli arg1 c4_i32_1199
  let v2459 : BitVec 32 := Scalar.addi v2458 c0_i32_1200
  let v2460 : Index := Scalar.indexCast v2459
  let c65 : Index := 65#32
  ![v2460.toNat, 65]
def k1_off67 (i : grid1.Coords) (c0_i32_1203 : BitVec 32) : Fin 2 → Nat :=
  let arg1 : BitVec 32 := BitVec.ofNat 32 (i 1).val
  let c4_i32_1202 : BitVec 32 := 4#32
  let v2467 : BitVec 32 := Scalar.muli arg1 c4_i32_1202
  let v2468 : BitVec 32 := Scalar.addi v2467 c0_i32_1203
  let v2469 : Index := Scalar.indexCast v2468
  let c66 : Index := 66#32
  ![v2469.toNat, 66]
def k1_off68 (i : grid1.Coords) (c0_i32_1206 : BitVec 32) : Fin 2 → Nat :=
  let arg1 : BitVec 32 := BitVec.ofNat 32 (i 1).val
  let c4_i32_1205 : BitVec 32 := 4#32
  let v2476 : BitVec 32 := Scalar.muli arg1 c4_i32_1205
  let v2477 : BitVec 32 := Scalar.addi v2476 c0_i32_1206
  let v2478 : Index := Scalar.indexCast v2477
  let c67 : Index := 67#32
  ![v2478.toNat, 67]
def k1_off69 (i : grid1.Coords) (c0_i32_1272 : BitVec 32) : Fin 2 → Nat :=
  let arg1 : BitVec 32 := BitVec.ofNat 32 (i 1).val
  let c4_i32_1271 : BitVec 32 := 4#32
  let v2602 : BitVec 32 := Scalar.muli arg1 c4_i32_1271
  let v2603 : BitVec 32 := Scalar.addi v2602 c0_i32_1272
  let v2604 : Index := Scalar.indexCast v2603
  let c68 : Index := 68#32
  ![v2604.toNat, 68]
def k1_off70 (i : grid1.Coords) (c0_i32_1275 : BitVec 32) : Fin 2 → Nat :=
  let arg1 : BitVec 32 := BitVec.ofNat 32 (i 1).val
  let c4_i32_1274 : BitVec 32 := 4#32
  let v2611 : BitVec 32 := Scalar.muli arg1 c4_i32_1274
  let v2612 : BitVec 32 := Scalar.addi v2611 c0_i32_1275
  let v2613 : Index := Scalar.indexCast v2612
  let c69 : Index := 69#32
  ![v2613.toNat, 69]
def k1_off71 (i : grid1.Coords) (c0_i32_1278 : BitVec 32) : Fin 2 → Nat :=
  let arg1 : BitVec 32 := BitVec.ofNat 32 (i 1).val
  let c4_i32_1277 : BitVec 32 := 4#32
  let v2620 : BitVec 32 := Scalar.muli arg1 c4_i32_1277
  let v2621 : BitVec 32 := Scalar.addi v2620 c0_i32_1278
  let v2622 : Index := Scalar.indexCast v2621
  let c70 : Index := 70#32
  ![v2622.toNat, 70]
def k1_off72 (i : grid1.Coords) (c0_i32_1281 : BitVec 32) : Fin 2 → Nat :=
  let arg1 : BitVec 32 := BitVec.ofNat 32 (i 1).val
  let c4_i32_1280 : BitVec 32 := 4#32
  let v2629 : BitVec 32 := Scalar.muli arg1 c4_i32_1280
  let v2630 : BitVec 32 := Scalar.addi v2629 c0_i32_1281
  let v2631 : Index := Scalar.indexCast v2630
  let c71 : Index := 71#32
  ![v2631.toNat, 71]
def k1_off73 (i : grid1.Coords) (c0_i32_1347 : BitVec 32) : Fin 2 → Nat :=
  let arg1 : BitVec 32 := BitVec.ofNat 32 (i 1).val
  let c4_i32_1346 : BitVec 32 := 4#32
  let v2755 : BitVec 32 := Scalar.muli arg1 c4_i32_1346
  let v2756 : BitVec 32 := Scalar.addi v2755 c0_i32_1347
  let v2757 : Index := Scalar.indexCast v2756
  let c72 : Index := 72#32
  ![v2757.toNat, 72]
def k1_off74 (i : grid1.Coords) (c0_i32_1350 : BitVec 32) : Fin 2 → Nat :=
  let arg1 : BitVec 32 := BitVec.ofNat 32 (i 1).val
  let c4_i32_1349 : BitVec 32 := 4#32
  let v2764 : BitVec 32 := Scalar.muli arg1 c4_i32_1349
  let v2765 : BitVec 32 := Scalar.addi v2764 c0_i32_1350
  let v2766 : Index := Scalar.indexCast v2765
  let c73 : Index := 73#32
  ![v2766.toNat, 73]
def k1_off75 (i : grid1.Coords) (c0_i32_1353 : BitVec 32) : Fin 2 → Nat :=
  let arg1 : BitVec 32 := BitVec.ofNat 32 (i 1).val
  let c4_i32_1352 : BitVec 32 := 4#32
  let v2773 : BitVec 32 := Scalar.muli arg1 c4_i32_1352
  let v2774 : BitVec 32 := Scalar.addi v2773 c0_i32_1353
  let v2775 : Index := Scalar.indexCast v2774
  let c74 : Index := 74#32
  ![v2775.toNat, 74]
def k1_off76 (i : grid1.Coords) (c0_i32_1356 : BitVec 32) : Fin 2 → Nat :=
  let arg1 : BitVec 32 := BitVec.ofNat 32 (i 1).val
  let c4_i32_1355 : BitVec 32 := 4#32
  let v2782 : BitVec 32 := Scalar.muli arg1 c4_i32_1355
  let v2783 : BitVec 32 := Scalar.addi v2782 c0_i32_1356
  let v2784 : Index := Scalar.indexCast v2783
  let c75 : Index := 75#32
  ![v2784.toNat, 75]
def k1_off77 (i : grid1.Coords) (c0_i32_1422 : BitVec 32) : Fin 2 → Nat :=
  let arg1 : BitVec 32 := BitVec.ofNat 32 (i 1).val
  let c4_i32_1421 : BitVec 32 := 4#32
  let v2908 : BitVec 32 := Scalar.muli arg1 c4_i32_1421
  let v2909 : BitVec 32 := Scalar.addi v2908 c0_i32_1422
  let v2910 : Index := Scalar.indexCast v2909
  let c76 : Index := 76#32
  ![v2910.toNat, 76]
def k1_off78 (i : grid1.Coords) (c0_i32_1425 : BitVec 32) : Fin 2 → Nat :=
  let arg1 : BitVec 32 := BitVec.ofNat 32 (i 1).val
  let c4_i32_1424 : BitVec 32 := 4#32
  let v2917 : BitVec 32 := Scalar.muli arg1 c4_i32_1424
  let v2918 : BitVec 32 := Scalar.addi v2917 c0_i32_1425
  let v2919 : Index := Scalar.indexCast v2918
  let c77 : Index := 77#32
  ![v2919.toNat, 77]
def k1_off79 (i : grid1.Coords) (c0_i32_1428 : BitVec 32) : Fin 2 → Nat :=
  let arg1 : BitVec 32 := BitVec.ofNat 32 (i 1).val
  let c4_i32_1427 : BitVec 32 := 4#32
  let v2926 : BitVec 32 := Scalar.muli arg1 c4_i32_1427
  let v2927 : BitVec 32 := Scalar.addi v2926 c0_i32_1428
  let v2928 : Index := Scalar.indexCast v2927
  let c78 : Index := 78#32
  ![v2928.toNat, 78]
def k1_off80 (i : grid1.Coords) (c0_i32_1431 : BitVec 32) : Fin 2 → Nat :=
  let arg1 : BitVec 32 := BitVec.ofNat 32 (i 1).val
  let c4_i32_1430 : BitVec 32 := 4#32
  let v2935 : BitVec 32 := Scalar.muli arg1 c4_i32_1430
  let v2936 : BitVec 32 := Scalar.addi v2935 c0_i32_1431
  let v2937 : Index := Scalar.indexCast v2936
  let c79 : Index := 79#32
  ![v2937.toNat, 79]
def k1_off81 (i : grid1.Coords) (c0_i32_1497 : BitVec 32) : Fin 2 → Nat :=
  let arg1 : BitVec 32 := BitVec.ofNat 32 (i 1).val
  let c4_i32_1496 : BitVec 32 := 4#32
  let v3061 : BitVec 32 := Scalar.muli arg1 c4_i32_1496
  let v3062 : BitVec 32 := Scalar.addi v3061 c0_i32_1497
  let v3063 : Index := Scalar.indexCast v3062
  let c80 : Index := 80#32
  ![v3063.toNat, 80]
def k1_off82 (i : grid1.Coords) (c0_i32_1500 : BitVec 32) : Fin 2 → Nat :=
  let arg1 : BitVec 32 := BitVec.ofNat 32 (i 1).val
  let c4_i32_1499 : BitVec 32 := 4#32
  let v3070 : BitVec 32 := Scalar.muli arg1 c4_i32_1499
  let v3071 : BitVec 32 := Scalar.addi v3070 c0_i32_1500
  let v3072 : Index := Scalar.indexCast v3071
  let c81 : Index := 81#32
  ![v3072.toNat, 81]
def k1_off83 (i : grid1.Coords) (c0_i32_1503 : BitVec 32) : Fin 2 → Nat :=
  let arg1 : BitVec 32 := BitVec.ofNat 32 (i 1).val
  let c4_i32_1502 : BitVec 32 := 4#32
  let v3079 : BitVec 32 := Scalar.muli arg1 c4_i32_1502
  let v3080 : BitVec 32 := Scalar.addi v3079 c0_i32_1503
  let v3081 : Index := Scalar.indexCast v3080
  let c82 : Index := 82#32
  ![v3081.toNat, 82]
def k1_off84 (i : grid1.Coords) (c0_i32_1506 : BitVec 32) : Fin 2 → Nat :=
  let arg1 : BitVec 32 := BitVec.ofNat 32 (i 1).val
  let c4_i32_1505 : BitVec 32 := 4#32
  let v3088 : BitVec 32 := Scalar.muli arg1 c4_i32_1505
  let v3089 : BitVec 32 := Scalar.addi v3088 c0_i32_1506
  let v3090 : Index := Scalar.indexCast v3089
  let c83 : Index := 83#32
  ![v3090.toNat, 83]
def k1_off85 (i : grid1.Coords) (c0_i32_1572 : BitVec 32) : Fin 2 → Nat :=
  let arg1 : BitVec 32 := BitVec.ofNat 32 (i 1).val
  let c4_i32_1571 : BitVec 32 := 4#32
  let v3214 : BitVec 32 := Scalar.muli arg1 c4_i32_1571
  let v3215 : BitVec 32 := Scalar.addi v3214 c0_i32_1572
  let v3216 : Index := Scalar.indexCast v3215
  let c84 : Index := 84#32
  ![v3216.toNat, 84]
def k1_off86 (i : grid1.Coords) (c0_i32_1575 : BitVec 32) : Fin 2 → Nat :=
  let arg1 : BitVec 32 := BitVec.ofNat 32 (i 1).val
  let c4_i32_1574 : BitVec 32 := 4#32
  let v3223 : BitVec 32 := Scalar.muli arg1 c4_i32_1574
  let v3224 : BitVec 32 := Scalar.addi v3223 c0_i32_1575
  let v3225 : Index := Scalar.indexCast v3224
  let c85 : Index := 85#32
  ![v3225.toNat, 85]
def k1_off87 (i : grid1.Coords) (c0_i32_1578 : BitVec 32) : Fin 2 → Nat :=
  let arg1 : BitVec 32 := BitVec.ofNat 32 (i 1).val
  let c4_i32_1577 : BitVec 32 := 4#32
  let v3232 : BitVec 32 := Scalar.muli arg1 c4_i32_1577
  let v3233 : BitVec 32 := Scalar.addi v3232 c0_i32_1578
  let v3234 : Index := Scalar.indexCast v3233
  let c86 : Index := 86#32
  ![v3234.toNat, 86]
def k1_off88 (i : grid1.Coords) (c0_i32_1581 : BitVec 32) : Fin 2 → Nat :=
  let arg1 : BitVec 32 := BitVec.ofNat 32 (i 1).val
  let c4_i32_1580 : BitVec 32 := 4#32
  let v3241 : BitVec 32 := Scalar.muli arg1 c4_i32_1580
  let v3242 : BitVec 32 := Scalar.addi v3241 c0_i32_1581
  let v3243 : Index := Scalar.indexCast v3242
  let c87 : Index := 87#32
  ![v3243.toNat, 87]
def k1_off89 (i : grid1.Coords) (c0_i32_1647 : BitVec 32) : Fin 2 → Nat :=
  let arg1 : BitVec 32 := BitVec.ofNat 32 (i 1).val
  let c4_i32_1646 : BitVec 32 := 4#32
  let v3367 : BitVec 32 := Scalar.muli arg1 c4_i32_1646
  let v3368 : BitVec 32 := Scalar.addi v3367 c0_i32_1647
  let v3369 : Index := Scalar.indexCast v3368
  let c88 : Index := 88#32
  ![v3369.toNat, 88]
def k1_off90 (i : grid1.Coords) (c0_i32_1650 : BitVec 32) : Fin 2 → Nat :=
  let arg1 : BitVec 32 := BitVec.ofNat 32 (i 1).val
  let c4_i32_1649 : BitVec 32 := 4#32
  let v3376 : BitVec 32 := Scalar.muli arg1 c4_i32_1649
  let v3377 : BitVec 32 := Scalar.addi v3376 c0_i32_1650
  let v3378 : Index := Scalar.indexCast v3377
  let c89 : Index := 89#32
  ![v3378.toNat, 89]
def k1_off91 (i : grid1.Coords) (c0_i32_1653 : BitVec 32) : Fin 2 → Nat :=
  let arg1 : BitVec 32 := BitVec.ofNat 32 (i 1).val
  let c4_i32_1652 : BitVec 32 := 4#32
  let v3385 : BitVec 32 := Scalar.muli arg1 c4_i32_1652
  let v3386 : BitVec 32 := Scalar.addi v3385 c0_i32_1653
  let v3387 : Index := Scalar.indexCast v3386
  let c90 : Index := 90#32
  ![v3387.toNat, 90]
def k1_off92 (i : grid1.Coords) (c0_i32_1656 : BitVec 32) : Fin 2 → Nat :=
  let arg1 : BitVec 32 := BitVec.ofNat 32 (i 1).val
  let c4_i32_1655 : BitVec 32 := 4#32
  let v3394 : BitVec 32 := Scalar.muli arg1 c4_i32_1655
  let v3395 : BitVec 32 := Scalar.addi v3394 c0_i32_1656
  let v3396 : Index := Scalar.indexCast v3395
  let c91 : Index := 91#32
  ![v3396.toNat, 91]
def k1_off93 (i : grid1.Coords) (c0_i32_1722 : BitVec 32) : Fin 2 → Nat :=
  let arg1 : BitVec 32 := BitVec.ofNat 32 (i 1).val
  let c4_i32_1721 : BitVec 32 := 4#32
  let v3520 : BitVec 32 := Scalar.muli arg1 c4_i32_1721
  let v3521 : BitVec 32 := Scalar.addi v3520 c0_i32_1722
  let v3522 : Index := Scalar.indexCast v3521
  let c92 : Index := 92#32
  ![v3522.toNat, 92]
def k1_off94 (i : grid1.Coords) (c0_i32_1725 : BitVec 32) : Fin 2 → Nat :=
  let arg1 : BitVec 32 := BitVec.ofNat 32 (i 1).val
  let c4_i32_1724 : BitVec 32 := 4#32
  let v3529 : BitVec 32 := Scalar.muli arg1 c4_i32_1724
  let v3530 : BitVec 32 := Scalar.addi v3529 c0_i32_1725
  let v3531 : Index := Scalar.indexCast v3530
  let c93 : Index := 93#32
  ![v3531.toNat, 93]
def k1_off95 (i : grid1.Coords) (c0_i32_1728 : BitVec 32) : Fin 2 → Nat :=
  let arg1 : BitVec 32 := BitVec.ofNat 32 (i 1).val
  let c4_i32_1727 : BitVec 32 := 4#32
  let v3538 : BitVec 32 := Scalar.muli arg1 c4_i32_1727
  let v3539 : BitVec 32 := Scalar.addi v3538 c0_i32_1728
  let v3540 : Index := Scalar.indexCast v3539
  let c94 : Index := 94#32
  ![v3540.toNat, 94]
def k1_off96 (i : grid1.Coords) (c0_i32_1731 : BitVec 32) : Fin 2 → Nat :=
  let arg1 : BitVec 32 := BitVec.ofNat 32 (i 1).val
  let c4_i32_1730 : BitVec 32 := 4#32
  let v3547 : BitVec 32 := Scalar.muli arg1 c4_i32_1730
  let v3548 : BitVec 32 := Scalar.addi v3547 c0_i32_1731
  let v3549 : Index := Scalar.indexCast v3548
  let c95 : Index := 95#32
  ![v3549.toNat, 95]
def k1_off97 (i : grid1.Coords) (c0_i32_1797 : BitVec 32) : Fin 2 → Nat :=
  let arg1 : BitVec 32 := BitVec.ofNat 32 (i 1).val
  let c4_i32_1796 : BitVec 32 := 4#32
  let v3673 : BitVec 32 := Scalar.muli arg1 c4_i32_1796
  let v3674 : BitVec 32 := Scalar.addi v3673 c0_i32_1797
  let v3675 : Index := Scalar.indexCast v3674
  let c96 : Index := 96#32
  ![v3675.toNat, 96]
def k1_off98 (i : grid1.Coords) (c0_i32_1800 : BitVec 32) : Fin 2 → Nat :=
  let arg1 : BitVec 32 := BitVec.ofNat 32 (i 1).val
  let c4_i32_1799 : BitVec 32 := 4#32
  let v3682 : BitVec 32 := Scalar.muli arg1 c4_i32_1799
  let v3683 : BitVec 32 := Scalar.addi v3682 c0_i32_1800
  let v3684 : Index := Scalar.indexCast v3683
  let c97 : Index := 97#32
  ![v3684.toNat, 97]
def k1_off99 (i : grid1.Coords) (c0_i32_1803 : BitVec 32) : Fin 2 → Nat :=
  let arg1 : BitVec 32 := BitVec.ofNat 32 (i 1).val
  let c4_i32_1802 : BitVec 32 := 4#32
  let v3691 : BitVec 32 := Scalar.muli arg1 c4_i32_1802
  let v3692 : BitVec 32 := Scalar.addi v3691 c0_i32_1803
  let v3693 : Index := Scalar.indexCast v3692
  let c98 : Index := 98#32
  ![v3693.toNat, 98]
def k1_off100 (i : grid1.Coords) (c0_i32_1806 : BitVec 32) : Fin 2 → Nat :=
  let arg1 : BitVec 32 := BitVec.ofNat 32 (i 1).val
  let c4_i32_1805 : BitVec 32 := 4#32
  let v3700 : BitVec 32 := Scalar.muli arg1 c4_i32_1805
  let v3701 : BitVec 32 := Scalar.addi v3700 c0_i32_1806
  let v3702 : Index := Scalar.indexCast v3701
  let c99 : Index := 99#32
  ![v3702.toNat, 99]
def k1_off101 (i : grid1.Coords) (c0_i32_1872 : BitVec 32) : Fin 2 → Nat :=
  let arg1 : BitVec 32 := BitVec.ofNat 32 (i 1).val
  let c4_i32_1871 : BitVec 32 := 4#32
  let v3826 : BitVec 32 := Scalar.muli arg1 c4_i32_1871
  let v3827 : BitVec 32 := Scalar.addi v3826 c0_i32_1872
  let v3828 : Index := Scalar.indexCast v3827
  let c100 : Index := 100#32
  ![v3828.toNat, 100]
def k1_off102 (i : grid1.Coords) (c0_i32_1875 : BitVec 32) : Fin 2 → Nat :=
  let arg1 : BitVec 32 := BitVec.ofNat 32 (i 1).val
  let c4_i32_1874 : BitVec 32 := 4#32
  let v3835 : BitVec 32 := Scalar.muli arg1 c4_i32_1874
  let v3836 : BitVec 32 := Scalar.addi v3835 c0_i32_1875
  let v3837 : Index := Scalar.indexCast v3836
  let c101 : Index := 101#32
  ![v3837.toNat, 101]
def k1_off103 (i : grid1.Coords) (c0_i32_1878 : BitVec 32) : Fin 2 → Nat :=
  let arg1 : BitVec 32 := BitVec.ofNat 32 (i 1).val
  let c4_i32_1877 : BitVec 32 := 4#32
  let v3844 : BitVec 32 := Scalar.muli arg1 c4_i32_1877
  let v3845 : BitVec 32 := Scalar.addi v3844 c0_i32_1878
  let v3846 : Index := Scalar.indexCast v3845
  let c102 : Index := 102#32
  ![v3846.toNat, 102]
def k1_off104 (i : grid1.Coords) (c0_i32_1881 : BitVec 32) : Fin 2 → Nat :=
  let arg1 : BitVec 32 := BitVec.ofNat 32 (i 1).val
  let c4_i32_1880 : BitVec 32 := 4#32
  let v3853 : BitVec 32 := Scalar.muli arg1 c4_i32_1880
  let v3854 : BitVec 32 := Scalar.addi v3853 c0_i32_1881
  let v3855 : Index := Scalar.indexCast v3854
  let c103 : Index := 103#32
  ![v3855.toNat, 103]
def k1_off105 (i : grid1.Coords) (c0_i32_1947 : BitVec 32) : Fin 2 → Nat :=
  let arg1 : BitVec 32 := BitVec.ofNat 32 (i 1).val
  let c4_i32_1946 : BitVec 32 := 4#32
  let v3979 : BitVec 32 := Scalar.muli arg1 c4_i32_1946
  let v3980 : BitVec 32 := Scalar.addi v3979 c0_i32_1947
  let v3981 : Index := Scalar.indexCast v3980
  let c104 : Index := 104#32
  ![v3981.toNat, 104]
def k1_off106 (i : grid1.Coords) (c0_i32_1950 : BitVec 32) : Fin 2 → Nat :=
  let arg1 : BitVec 32 := BitVec.ofNat 32 (i 1).val
  let c4_i32_1949 : BitVec 32 := 4#32
  let v3988 : BitVec 32 := Scalar.muli arg1 c4_i32_1949
  let v3989 : BitVec 32 := Scalar.addi v3988 c0_i32_1950
  let v3990 : Index := Scalar.indexCast v3989
  let c105 : Index := 105#32
  ![v3990.toNat, 105]
def k1_off107 (i : grid1.Coords) (c0_i32_1953 : BitVec 32) : Fin 2 → Nat :=
  let arg1 : BitVec 32 := BitVec.ofNat 32 (i 1).val
  let c4_i32_1952 : BitVec 32 := 4#32
  let v3997 : BitVec 32 := Scalar.muli arg1 c4_i32_1952
  let v3998 : BitVec 32 := Scalar.addi v3997 c0_i32_1953
  let v3999 : Index := Scalar.indexCast v3998
  let c106 : Index := 106#32
  ![v3999.toNat, 106]
def k1_off108 (i : grid1.Coords) (c0_i32_1956 : BitVec 32) : Fin 2 → Nat :=
  let arg1 : BitVec 32 := BitVec.ofNat 32 (i 1).val
  let c4_i32_1955 : BitVec 32 := 4#32
  let v4006 : BitVec 32 := Scalar.muli arg1 c4_i32_1955
  let v4007 : BitVec 32 := Scalar.addi v4006 c0_i32_1956
  let v4008 : Index := Scalar.indexCast v4007
  let c107 : Index := 107#32
  ![v4008.toNat, 107]
def k1_off109 (i : grid1.Coords) (c0_i32_2022 : BitVec 32) : Fin 2 → Nat :=
  let arg1 : BitVec 32 := BitVec.ofNat 32 (i 1).val
  let c4_i32_2021 : BitVec 32 := 4#32
  let v4132 : BitVec 32 := Scalar.muli arg1 c4_i32_2021
  let v4133 : BitVec 32 := Scalar.addi v4132 c0_i32_2022
  let v4134 : Index := Scalar.indexCast v4133
  let c108 : Index := 108#32
  ![v4134.toNat, 108]
def k1_off110 (i : grid1.Coords) (c0_i32_2025 : BitVec 32) : Fin 2 → Nat :=
  let arg1 : BitVec 32 := BitVec.ofNat 32 (i 1).val
  let c4_i32_2024 : BitVec 32 := 4#32
  let v4141 : BitVec 32 := Scalar.muli arg1 c4_i32_2024
  let v4142 : BitVec 32 := Scalar.addi v4141 c0_i32_2025
  let v4143 : Index := Scalar.indexCast v4142
  let c109 : Index := 109#32
  ![v4143.toNat, 109]
def k1_off111 (i : grid1.Coords) (c0_i32_2028 : BitVec 32) : Fin 2 → Nat :=
  let arg1 : BitVec 32 := BitVec.ofNat 32 (i 1).val
  let c4_i32_2027 : BitVec 32 := 4#32
  let v4150 : BitVec 32 := Scalar.muli arg1 c4_i32_2027
  let v4151 : BitVec 32 := Scalar.addi v4150 c0_i32_2028
  let v4152 : Index := Scalar.indexCast v4151
  let c110 : Index := 110#32
  ![v4152.toNat, 110]
def k1_off112 (i : grid1.Coords) (c0_i32_2031 : BitVec 32) : Fin 2 → Nat :=
  let arg1 : BitVec 32 := BitVec.ofNat 32 (i 1).val
  let c4_i32_2030 : BitVec 32 := 4#32
  let v4159 : BitVec 32 := Scalar.muli arg1 c4_i32_2030
  let v4160 : BitVec 32 := Scalar.addi v4159 c0_i32_2031
  let v4161 : Index := Scalar.indexCast v4160
  let c111 : Index := 111#32
  ![v4161.toNat, 111]
def k1_off113 (i : grid1.Coords) (c0_i32_2097 : BitVec 32) : Fin 2 → Nat :=
  let arg1 : BitVec 32 := BitVec.ofNat 32 (i 1).val
  let c4_i32_2096 : BitVec 32 := 4#32
  let v4285 : BitVec 32 := Scalar.muli arg1 c4_i32_2096
  let v4286 : BitVec 32 := Scalar.addi v4285 c0_i32_2097
  let v4287 : Index := Scalar.indexCast v4286
  let c112 : Index := 112#32
  ![v4287.toNat, 112]
def k1_off114 (i : grid1.Coords) (c0_i32_2100 : BitVec 32) : Fin 2 → Nat :=
  let arg1 : BitVec 32 := BitVec.ofNat 32 (i 1).val
  let c4_i32_2099 : BitVec 32 := 4#32
  let v4294 : BitVec 32 := Scalar.muli arg1 c4_i32_2099
  let v4295 : BitVec 32 := Scalar.addi v4294 c0_i32_2100
  let v4296 : Index := Scalar.indexCast v4295
  let c113 : Index := 113#32
  ![v4296.toNat, 113]
def k1_off115 (i : grid1.Coords) (c0_i32_2103 : BitVec 32) : Fin 2 → Nat :=
  let arg1 : BitVec 32 := BitVec.ofNat 32 (i 1).val
  let c4_i32_2102 : BitVec 32 := 4#32
  let v4303 : BitVec 32 := Scalar.muli arg1 c4_i32_2102
  let v4304 : BitVec 32 := Scalar.addi v4303 c0_i32_2103
  let v4305 : Index := Scalar.indexCast v4304
  let c114 : Index := 114#32
  ![v4305.toNat, 114]
def k1_off116 (i : grid1.Coords) (c0_i32_2106 : BitVec 32) : Fin 2 → Nat :=
  let arg1 : BitVec 32 := BitVec.ofNat 32 (i 1).val
  let c4_i32_2105 : BitVec 32 := 4#32
  let v4312 : BitVec 32 := Scalar.muli arg1 c4_i32_2105
  let v4313 : BitVec 32 := Scalar.addi v4312 c0_i32_2106
  let v4314 : Index := Scalar.indexCast v4313
  let c115 : Index := 115#32
  ![v4314.toNat, 115]
def k1_off117 (i : grid1.Coords) (c0_i32_2172 : BitVec 32) : Fin 2 → Nat :=
  let arg1 : BitVec 32 := BitVec.ofNat 32 (i 1).val
  let c4_i32_2171 : BitVec 32 := 4#32
  let v4438 : BitVec 32 := Scalar.muli arg1 c4_i32_2171
  let v4439 : BitVec 32 := Scalar.addi v4438 c0_i32_2172
  let v4440 : Index := Scalar.indexCast v4439
  let c116 : Index := 116#32
  ![v4440.toNat, 116]
def k1_off118 (i : grid1.Coords) (c0_i32_2175 : BitVec 32) : Fin 2 → Nat :=
  let arg1 : BitVec 32 := BitVec.ofNat 32 (i 1).val
  let c4_i32_2174 : BitVec 32 := 4#32
  let v4447 : BitVec 32 := Scalar.muli arg1 c4_i32_2174
  let v4448 : BitVec 32 := Scalar.addi v4447 c0_i32_2175
  let v4449 : Index := Scalar.indexCast v4448
  let c117 : Index := 117#32
  ![v4449.toNat, 117]
def k1_off119 (i : grid1.Coords) (c0_i32_2178 : BitVec 32) : Fin 2 → Nat :=
  let arg1 : BitVec 32 := BitVec.ofNat 32 (i 1).val
  let c4_i32_2177 : BitVec 32 := 4#32
  let v4456 : BitVec 32 := Scalar.muli arg1 c4_i32_2177
  let v4457 : BitVec 32 := Scalar.addi v4456 c0_i32_2178
  let v4458 : Index := Scalar.indexCast v4457
  let c118 : Index := 118#32
  ![v4458.toNat, 118]
def k1_off120 (i : grid1.Coords) (c0_i32_2181 : BitVec 32) : Fin 2 → Nat :=
  let arg1 : BitVec 32 := BitVec.ofNat 32 (i 1).val
  let c4_i32_2180 : BitVec 32 := 4#32
  let v4465 : BitVec 32 := Scalar.muli arg1 c4_i32_2180
  let v4466 : BitVec 32 := Scalar.addi v4465 c0_i32_2181
  let v4467 : Index := Scalar.indexCast v4466
  let c119 : Index := 119#32
  ![v4467.toNat, 119]
def k1_off121 (i : grid1.Coords) (c0_i32_2247 : BitVec 32) : Fin 2 → Nat :=
  let arg1 : BitVec 32 := BitVec.ofNat 32 (i 1).val
  let c4_i32_2246 : BitVec 32 := 4#32
  let v4591 : BitVec 32 := Scalar.muli arg1 c4_i32_2246
  let v4592 : BitVec 32 := Scalar.addi v4591 c0_i32_2247
  let v4593 : Index := Scalar.indexCast v4592
  let c120 : Index := 120#32
  ![v4593.toNat, 120]
def k1_off122 (i : grid1.Coords) (c0_i32_2250 : BitVec 32) : Fin 2 → Nat :=
  let arg1 : BitVec 32 := BitVec.ofNat 32 (i 1).val
  let c4_i32_2249 : BitVec 32 := 4#32
  let v4600 : BitVec 32 := Scalar.muli arg1 c4_i32_2249
  let v4601 : BitVec 32 := Scalar.addi v4600 c0_i32_2250
  let v4602 : Index := Scalar.indexCast v4601
  let c121 : Index := 121#32
  ![v4602.toNat, 121]
def k1_off123 (i : grid1.Coords) (c0_i32_2253 : BitVec 32) : Fin 2 → Nat :=
  let arg1 : BitVec 32 := BitVec.ofNat 32 (i 1).val
  let c4_i32_2252 : BitVec 32 := 4#32
  let v4609 : BitVec 32 := Scalar.muli arg1 c4_i32_2252
  let v4610 : BitVec 32 := Scalar.addi v4609 c0_i32_2253
  let v4611 : Index := Scalar.indexCast v4610
  let c122 : Index := 122#32
  ![v4611.toNat, 122]
def k1_off124 (i : grid1.Coords) (c0_i32_2256 : BitVec 32) : Fin 2 → Nat :=
  let arg1 : BitVec 32 := BitVec.ofNat 32 (i 1).val
  let c4_i32_2255 : BitVec 32 := 4#32
  let v4618 : BitVec 32 := Scalar.muli arg1 c4_i32_2255
  let v4619 : BitVec 32 := Scalar.addi v4618 c0_i32_2256
  let v4620 : Index := Scalar.indexCast v4619
  let c123 : Index := 123#32
  ![v4620.toNat, 123]
def k1_off125 (i : grid1.Coords) (c0_i32_2322 : BitVec 32) : Fin 2 → Nat :=
  let arg1 : BitVec 32 := BitVec.ofNat 32 (i 1).val
  let c4_i32_2321 : BitVec 32 := 4#32
  let v4744 : BitVec 32 := Scalar.muli arg1 c4_i32_2321
  let v4745 : BitVec 32 := Scalar.addi v4744 c0_i32_2322
  let v4746 : Index := Scalar.indexCast v4745
  let c124 : Index := 124#32
  ![v4746.toNat, 124]
def k1_off126 (i : grid1.Coords) (c0_i32_2325 : BitVec 32) : Fin 2 → Nat :=
  let arg1 : BitVec 32 := BitVec.ofNat 32 (i 1).val
  let c4_i32_2324 : BitVec 32 := 4#32
  let v4753 : BitVec 32 := Scalar.muli arg1 c4_i32_2324
  let v4754 : BitVec 32 := Scalar.addi v4753 c0_i32_2325
  let v4755 : Index := Scalar.indexCast v4754
  let c125 : Index := 125#32
  ![v4755.toNat, 125]
def k1_off127 (i : grid1.Coords) (c0_i32_2328 : BitVec 32) : Fin 2 → Nat :=
  let arg1 : BitVec 32 := BitVec.ofNat 32 (i 1).val
  let c4_i32_2327 : BitVec 32 := 4#32
  let v4762 : BitVec 32 := Scalar.muli arg1 c4_i32_2327
  let v4763 : BitVec 32 := Scalar.addi v4762 c0_i32_2328
  let v4764 : Index := Scalar.indexCast v4763
  let c126 : Index := 126#32
  ![v4764.toNat, 126]
def k1_off128 (i : grid1.Coords) (c0_i32_2331 : BitVec 32) : Fin 2 → Nat :=
  let arg1 : BitVec 32 := BitVec.ofNat 32 (i 1).val
  let c4_i32_2330 : BitVec 32 := 4#32
  let v4771 : BitVec 32 := Scalar.muli arg1 c4_i32_2330
  let v4772 : BitVec 32 := Scalar.addi v4771 c0_i32_2331
  let v4773 : Index := Scalar.indexCast v4772
  let c127 : Index := 127#32
  ![v4773.toNat, 127]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .smem S48x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S512x16384 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x16384 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ReferenceIdeal.lean ====
abbrev S2x8192x16384 : Shape := ⟨3, ![2, 8192, 16384]⟩
abbrev S16384 : Shape := ⟨1, ![16384]⟩
abbrev S6144x16384 : Shape := ⟨2, ![6144, 16384]⟩
abbrev S48x128 : Shape := ⟨2, ![48, 128]⟩
abbrev S2x8192x6144 : Shape := ⟨3, ![2, 8192, 6144]⟩
abbrev S2x8192x128 : Shape := ⟨3, ![2, 8192, 128]⟩
abbrev S2x8192 : Shape := ⟨2, ![2, 8192]⟩
abbrev S2x8192x1 : Shape := ⟨3, ![2, 8192, 1]⟩
abbrev S1x1x16384 : Shape := ⟨3, ![1, 1, 16384]⟩
abbrev S2x8192x128x128 : Shape := ⟨4, ![2, 8192, 128, 128]⟩
abbrev S2x8192x128x1 : Shape := ⟨4, ![2, 8192, 128, 1]⟩
abbrev S48x128x128x128 : Shape := ⟨4, ![48, 128, 128, 128]⟩
abbrev S48x1x128x1 : Shape := ⟨4, ![48, 1, 128, 1]⟩

abbrev nBuf : Space → Nat
  | .hbm => 7
  | .vmem => 7
  | .smem => 0
  | _ => 0

abbrev bufTy : (tb : Table) → Fin (tcTables nBuf tb) → BufTy
  | .hbm, ⟨0, _⟩ => ⟨S2x8192x16384, .bf16⟩
  | .hbm, ⟨1, _⟩ => ⟨S16384, .f32⟩
  | .hbm, ⟨2, _⟩ => ⟨S6144x16384, .fp8e4m3⟩
  | .hbm, ⟨3, _⟩ => ⟨S48x128, .f32⟩
  | .hbm, ⟨4, _⟩ => ⟨S2x8192x6144, .bf16⟩
  | .hbm, ⟨5, _⟩ => ⟨S2x8192x16384, .fp8e4m3⟩
  | .hbm, ⟨6, _⟩ => ⟨S2x8192x128, .f32⟩
  | .local _ .vmem, ⟨0, _⟩ => ⟨S2x8192x16384, .bf16⟩
  | .local _ .vmem, ⟨1, _⟩ => ⟨S16384, .f32⟩
  | .local _ .vmem, ⟨2, _⟩ => ⟨S6144x16384, .fp8e4m3⟩
  | .local _ .vmem, ⟨3, _⟩ => ⟨S48x128, .f32⟩
  | .local _ .vmem, ⟨4, _⟩ => ⟨S2x8192x6144, .bf16⟩
  | .local _ .vmem, ⟨5, _⟩ => ⟨S2x8192x16384, .fp8e4m3⟩
  | .local _ .vmem, ⟨6, _⟩ => ⟨S2x8192x128, .f32⟩
  | _, _ => ⟨S2x8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x8192x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x16384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8192x6144 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8192x16384 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x8192x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.QuantBody.lean ====
/- The body of the first kernel as loops over the 128 groups of 128 columns. The generated frame gives each of the three output
   blocks as a list of 128 stores of named values; `codes_eq`, `scale_eq` and `xq_eq` say these lists are the recursions below, by
   definitional unfolding. -/
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
namespace Cert.KernelIdeal.Quant
open Cert.KernelIdeal Cert.KernelIdeal.Gen

theorem tile_inb (j : ℕ) (h : j < 128) : ∀ a, (![0, 128 * j] : Fin 2 → ℕ) a + S128x128.size a ≤ S128x16384.size a := by
  intro a
  match a with
  | ⟨0, _⟩ => show 0 + 128 ≤ 128; omega
  | ⟨1, _⟩ => show 128 * j + 128 ≤ 16384; omega

theorem gain_inb (j : ℕ) (h : j < 128) : ∀ a, (![0, 128 * j] : Fin 2 → ℕ) a + S1x128.size a ≤ S1x16384.size a := by
  intro a
  match a with
  | ⟨0, _⟩ => show 0 + 1 ≤ 1; omega
  | ⟨1, _⟩ => show 128 * j + 128 ≤ 16384; omega

theorem col_inb (j : ℕ) (h : j < 128) : ∀ a, (![0, j] : Fin 2 → ℕ) a + S128x1.size a ≤ S128x128.size a := by
  intro a
  match a with
  | ⟨0, _⟩ => show 0 + 128 ≤ 128; omega
  | ⟨1, _⟩ => show j + 1 ≤ 128; omega

/-- Columns `128 * j` to `128 * j + 127` of a block of rows, of the row of gains, and column `j` of the block of scales. -/
abbrev tileR (j : ℕ) (h : j < 128) : Rect S128x16384 := Rect.unit (s := S128x16384) ![0, 128 * j] S128x128.size (tile_inb j h)
abbrev gainR (j : ℕ) (h : j < 128) : Rect S1x16384 := Rect.unit (s := S1x16384) ![0, 128 * j] S1x128.size (gain_inb j h)
abbrev colR (j : ℕ) (h : j < 128) : Rect S128x128 := Rect.unit (s := S128x128) ![0, j] S128x1.size (col_inb j h)

section Body
variable {F : FTy → Type} [FloatOps F] (x0 : Vec F S128x16384 .bf16) (x1 : Vec F S1x16384 .f32)

/-- Group `j` of the rows, in f32. -/
def xs (j : ℕ) (h : j < 128) : FVec F S128x128 .f32 :=
  extf .f32 (shapeCast S128x128 (View.ld x0 (tileR j h)) shapeCasts_S128x128_S128x128) bitsLt_bf16_f32

/-- The squares of the first `n` groups, added up. -/
def ssum : (n : ℕ) → n ≤ 128 → FVec F S128x128 .f32
  | 0, _ => broadcast S128x128 (Scalar.ofBits .f32 0x00000000#32)
  | n + 1, h => addf (ssum n (Nat.le_of_succ_le h)) (mulf (xs x0 n h) (xs x0 n h))

/-- One over the root mean square of each row. -/
def rinv : FVec F S128x1 .f32 :=
  rsqrt (addf (mulf (shapeCast S128x1 (multiReduction .add [1] S128 (ssum x0 128 (le_refl 128)) 0x00000000#32 reduces_S128x128_S128 (.inl rfl) rfl)
    shapeCasts_S128_S128x1) (broadcast S128x1 (Scalar.ofBits .f32 0x38800000#32))) (broadcast S128x1 (Scalar.ofBits .f32 0x358637BD#32)))

/-- Group `j`, normalized. -/
def nrm (j : ℕ) (h : j < 128) : FVec F S128x128 .f32 :=
  mulf (mulf (xs x0 j h) (broadcastTo S128x128 (rinv x0) broadcasts_S128x1_S128x128))
    (broadcastTo S128x128 (shapeCast S1x128 (View.ld x1 (gainR j h)) shapeCasts_S1x128_S1x128) broadcasts_S1x128_S128x128)

/-- The largest magnitude of each row of group `j`, divided by the largest code. -/
def tval (j : ℕ) (h : j < 128) : FVec F S128x128 .f32 :=
  mulf (broadcastTo S128x128 (shapeCast S128x1 (shapeCast S128x1 (multiReduction .maximumf [1] S128 (absf (nrm x0 x1 j h)) 0xFF800000#32
    reduces_S128x128_S128 (.inl rfl) rfl) shapeCasts_S128_S128x1) shapeCasts_S128x1_S128x1) broadcasts_S128x1_S128x128)
    (broadcast S128x128 (Scalar.ofBits .f32 0x3B124925#32))

/-- One step of the search for the exponent field. -/
def stepV (t : FVec F S128x128 .f32) (f : IVec S128x128 32) (b : BitVec 32) : IVec S128x128 32 :=
  select (cmpf .olt t (bitcastToFloat .f32 (addi f (broadcast S128x128 b)))) f (addi f (broadcast S128x128 b))

def fieldV (t : FVec F S128x128 .f32) : IVec S128x128 32 :=
  stepV t (stepV t (stepV t (stepV t (stepV t (stepV t (stepV t (stepV t (broadcast S128x128 0#32) 1073741824#32) 536870912#32) 268435456#32)
    134217728#32) 67108864#32) 33554432#32) 16777216#32) 8388608#32

def bitsV (t : FVec F S128x128 .f32) : IVec S128x128 32 :=
  select (cmpi .eq (fieldV t) (broadcast S128x128 0#32)) (broadcast S128x128 1056964608#32) (fieldV t)

def scaleV (t : FVec F S128x128 .f32) : FVec F S128x128 .f32 :=
  bitcastToFloat .f32 (addi (bitsV t) (broadcast S128x128 8388608#32))

def invV (t : FVec F S128x128 .f32) : FVec F S128x128 .f32 :=
  bitcastToFloat .f32 (subi (broadcast S128x128 2122317824#32) (bitsV t))

/-- Group `j`'s codes, scales and dequantized values. -/
def codesV (j : ℕ) (h : j < 128) : FVec F S128x128 .fp8e4m3 :=
  truncf .fp8e4m3 (minimumf (broadcast S128x128 (Scalar.ofBits .f32 0x43E00000#32)) (maximumf (broadcast S128x128 (Scalar.ofBits .f32 0xC3E00000#32))
    (mulf (nrm x0 x1 j h) (invV (tval x0 x1 j h))))) bitsLt_fp8e4m3_f32

def scaleC (j : ℕ) (h : j < 128) : FVec F S128x1 .f32 :=
  extractStridedSlice S128x1 ![0, 0] (scaleV (tval x0 x1 j h)) slices_S128x128_o0_0_S128x1

def xqV (j : ℕ) (h : j < 128) : FVec F S128x128 .bf16 :=
  mulf (extf .bf16 (codesV x0 x1 j h) bitsLt_fp8e4m3_bf16) (truncf .bf16 (scaleV (tval x0 x1 j h)) bitsLt_bf16_f32)

/-- The stores of the first `n` groups, the last first: blocks of 128 columns, and single columns. -/
def tiles {e : EltTy} (f : (j : ℕ) → j < 128 → S128x128.Idx → Elt F e) : (n : ℕ) → n ≤ 128 → List (View.Piece (Elt F) S128x16384 e)
  | 0, _ => []
  | n + 1, h => ⟨tileR n h, f n h⟩ :: tiles f n (Nat.le_of_succ_le h)

def cols {e : EltTy} (f : (j : ℕ) → j < 128 → S128x1.Idx → Elt F e) : (n : ℕ) → n ≤ 128 → List (View.Piece (Elt F) S128x128 e)
  | 0, _ => []
  | n + 1, h => ⟨colR n h, f n h⟩ :: cols f n (Nat.le_of_succ_le h)

set_option maxHeartbeats 4000000

theorem codes_eq : out0_2 x0 x1 = View.canon (tiles (F := F) (e := .fp8e4m3) (codesV x0 x1) 128 (le_refl 128)) := by
  sl_kernel_rfl

theorem scale_eq : out0_3 x0 x1 = View.canon (cols (F := F) (e := .f32) (scaleC x0 x1) 128 (le_refl 128)) := by
  sl_kernel_rfl

theorem xq_eq : out0_4 x0 x1 = View.canon (tiles (F := F) (e := .bf16) (xqV x0 x1) 128 (le_refl 128)) := by
  sl_kernel_rfl
end Body

/-- Blocks of columns read back: entry (`r`, `128 * j + k`) is entry (`r`, `k`) of block `j`. -/
theorem tiles_at {F : FTy → Type} [FloatOps F] {e : EltTy} (f : (j : ℕ) → j < 128 → S128x128.Idx → Elt F e) (j : ℕ) (hj : j < 128)
    (z : S128x128.Idx) (y : S128x16384.Idx) (h0 : (y 0 : ℕ) = z 0) (h1 : (y 1 : ℕ) = 128 * j + z 1) :
    (n : ℕ) → (h : n ≤ 128) → j < n → View.canon (tiles f n h) y = f j hj z
  | 0, _, hn => absurd hn (Nat.not_lt_zero _)
  | n + 1, h, hn => by
    unfold tiles
    by_cases e : j = n
    · subst e
      have hy : y = (tileR j h).emb z := by
        funext a; apply Fin.ext
        match a with
        | ⟨0, _⟩ => show (y 0 : ℕ) = 0 + 1 * (z 0 : ℕ); omega
        | ⟨1, _⟩ => show (y 1 : ℕ) = 128 * j + 1 * (z 1 : ℕ); omega
      rw [hy]
      exact View.canon_cons_emb _ _ _ _
    · have hz : (z 1 : ℕ) < 128 := (z 1).isLt
      rw [View.canon_cons_of_not_mem]
      · exact tiles_at f j hj z y h0 h1 n _ (by omega)
      · intro hm
        have := (Rect.mem_set_unit (inb := tile_inb n h).1 hm) 1
        have h2 : 128 * n ≤ (y 1 : ℕ) ∧ (y 1 : ℕ) < 128 * n + 128 := this
        omega

theorem cols_at {F : FTy → Type} [FloatOps F] {e : EltTy} (f : (j : ℕ) → j < 128 → S128x1.Idx → Elt F e) (j : ℕ) (hj : j < 128)
    (z : S128x1.Idx) (y : S128x128.Idx) (h0 : (y 0 : ℕ) = z 0) (h1 : (y 1 : ℕ) = j) :
    (n : ℕ) → (h : n ≤ 128) → j < n → View.canon (cols f n h) y = f j hj z
  | 0, _, hn => absurd hn (Nat.not_lt_zero _)
  | n + 1, h, hn => by
    have hz : (z 1 : ℕ) < 1 := (z 1).isLt
    unfold cols
    by_cases e : j = n
    · subst e
      have hy : y = (colR j h).emb z := by
        funext a; apply Fin.ext
        match a with
        | ⟨0, _⟩ => show (y 0 : ℕ) = 0 + 1 * (z 0 : ℕ); omega
        | ⟨1, _⟩ => show (y 1 : ℕ) = j + 1 * (z 1 : ℕ); omega
      rw [hy]
      exact View.canon_cons_emb _ _ _ _
    · rw [View.canon_cons_of_not_mem]
      · exact cols_at f j hj z y h0 h1 n _ (by omega)
      · intro hm
        have := (Rect.mem_set_unit (inb := col_inb n h).1 hm) 1
        have h2 : n ≤ (y 1 : ℕ) ∧ (y 1 : ℕ) < n + 1 := this
        omega
end Cert.KernelIdeal.Quant

end
-- ==== Proof.Pow2.lean ====
/- Powers of two as extended reals: what a word with only an exponent field denotes, and the bitwise search for the
   largest such word whose float is not above a value. -/
module

public import Idealize.ShloMosaic.PureOps.Ideal
public import Idealize.ShloMosaic.Lib.Pipeline.ValueKit

@[expose] public section

noncomputable section

open Idealize.ShloMosaic
namespace Cert.Pow2

/-- `2 ^ k` as an extended real. -/
abbrev two (k : ℤ) : EReal := (((2 : ℝ) ^ k : ℝ) : EReal)

/-- The word whose exponent field is `k` and whose other bits are zero. -/
def word (k : ℕ) : BitVec 32 := BitVec.ofNat 32 (8388608 * k)

theorem word_fields (k : ℕ) (h : k < 256) : ((word k).extractLsb' 23 8).toNat = k ∧ ((word k).extractLsb' 0 23).toNat = 0
    ∧ ((word k).extractLsb' (8 + 23) 1 == 1#1) = false := by
  have : ∀ k : Fin 256, ((word k).extractLsb' 23 8).toNat = k ∧ ((word k).extractLsb' 0 23).toNat = 0
      ∧ ((word k).extractLsb' (8 + 23) 1 == 1#1) = false := by decide +kernel
  exact this ⟨k, h⟩

/-- The float of `word k`. -/
def val (k : ℕ) : EReal := if k = 0 then 0 else if k = 255 then ⊤ else two ((k : ℤ) - 127)

theorem ofBits_word (k : ℕ) (h : k < 256) : Ideal.ofBits .f32 (word k) = val k := by
  obtain ⟨e1, e2, e4⟩ := word_fields k h
  show Ideal.ieee 8 23 (word k) = val k
  unfold Ideal.ieee val
  simp only [e1, e2, e4]
  norm_num
  split_ifs with a b c
  · omega
  · rfl
  · rfl
  · have : ((8388608 : ℝ) * 2 ^ ((k : ℤ) - 127 - 23)) = 2 ^ ((k : ℤ) - 127) := by
      rw [zpow_sub₀ (by norm_num : (2 : ℝ) ≠ 0) _ 23]; norm_num; ring
    exact_mod_cast congrArg (fun r : ℝ => (r : EReal)) this

theorem two_pos (k : ℤ) : 0 < two k := by
  rw [← EReal.coe_zero]; exact EReal.coe_lt_coe_iff.2 (by positivity)

theorem two_lt {a b : ℤ} (h : a < b) : two a < two b :=
  EReal.coe_lt_coe_iff.2 (zpow_lt_zpow_right₀ (by norm_num) h)

theorem two_le {a b : ℤ} (h : a ≤ b) : two a ≤ two b :=
  EReal.coe_le_coe_iff.2 (zpow_le_zpow_right₀ (by norm_num) h)

theorem val_le {a b : ℕ} (h : a ≤ b) (hb : b < 256) : val a ≤ val b := by
  unfold val
  split_ifs <;> first | omega | exact le_rfl | exact le_top | exact (two_pos _).le | exact two_le (by omega)

/-- One step of the search: add the bit to the word found so far unless the float of the sum is above `t`. -/
def step (t : EReal) (f b : BitVec 32) : BitVec 32 := if t < Ideal.ofBits .f32 (f + b) then f else f + b

/-- The words the search has found: those with `d` more to add from lie in a window of `d` fields around `t`. -/
def Found (t : EReal) (d : ℕ) (f : BitVec 32) : Prop :=
  ∃ k, f = word k ∧ k + d ≤ 256 ∧ val k ≤ t ∧ (k + d < 256 → t < val (k + d))

theorem word_add (a b : ℕ) : word a + word b = word (a + b) := by
  rw [word, word, word, Nat.mul_add, BitVec.ofNat_add]

theorem step_found {t : EReal} {d : ℕ} (hd : 0 < d) {f : BitVec 32} (h : Found t (d + d) f) : Found t d (step t f (word d)) := by
  obtain ⟨k, rfl, h1, h2, h3⟩ := h
  unfold step
  rw [word_add, ofBits_word _ (by omega)]
  split_ifs with hc
  · exact ⟨k, rfl, by omega, h2, fun _ => hc⟩
  · exact ⟨k + d, rfl, by omega, not_lt.1 hc, fun hk => by rw [add_assoc] at hk ⊢; exact h3 hk⟩

/-- The search over the eight bits of the field. -/
def field (t : EReal) : BitVec 32 :=
  step t (step t (step t (step t (step t (step t (step t (step t 0#32 1073741824#32) 536870912#32) 268435456#32) 134217728#32)
    67108864#32) 33554432#32) 16777216#32) 8388608#32

theorem field_found {t : EReal} (h : 0 ≤ t) : Found t 1 (field t) := by
  have h0 : Found t 256 0#32 := ⟨0, rfl, le_rfl, by simpa [val] using h, fun h => absurd h (lt_irrefl _)⟩
  exact step_found (d := 1) (by decide) (step_found (d := 2) (by decide) (step_found (d := 4) (by decide)
    (step_found (d := 8) (by decide) (step_found (d := 16) (by decide) (step_found (d := 32) (by decide)
    (step_found (d := 64) (by decide) (step_found (d := 128) (by decide) h0)))))))

/-- The field the scale is made from: 126 in place of a field of zero. -/
def bits (t : EReal) : BitVec 32 := if field t = 0#32 then 1056964608#32 else field t

/-- The scale and its inverse, as the words the search gives. -/
def scaleW (t : EReal) : EReal := Ideal.ofBits .f32 (bits t + 8388608#32)
def invW (t : EReal) : EReal := Ideal.ofBits .f32 (2122317824#32 - bits t)

/-- The exponent: 0 below the smallest normal, else one more than the floor of the logarithm. -/
def expo (t : EReal) : EReal :=
  if t < two (-126) then 0 else Ideal.liftRound Int.floor (Ideal.div (Ideal.log t) (Ideal.log 2)) + 1

theorem zero_word : Ideal.ofBits .f32 0#32 = 0 := by
  rw [show (0#32 : BitVec 32) = word 0 by decide +kernel, ofBits_word _ (by omega)]; rfl

/-- The exponent as the reference writes it, its constants as words. -/
theorem expo_words (t : EReal) : Scalar.select (Ideal.cmp .olt t (Ideal.ofBits .f32 0x00800000#32)) (Ideal.ofBits .f32 0#32)
    (Ideal.liftRound Int.floor (Ideal.div (Ideal.log t) (Ideal.log (Ideal.ofBits .f32 0x40000000#32))) + Ideal.ofBits .f32 0x3F800000#32)
      = expo t := by
  have e1 : Ideal.ofBits .f32 0x00800000#32 = two (-126) := by
    rw [show (0x00800000#32 : BitVec 32) = word 1 by decide +kernel, ofBits_word _ (by omega)]; rfl
  have e3 : Ideal.ofBits .f32 0x40000000#32 = 2 := by
    rw [show (0x40000000#32 : BitVec 32) = word 128 by decide +kernel, ofBits_word _ (by omega)]
    norm_num [val]
    show (((2 : ℝ) ^ (1 : ℤ) : ℝ) : EReal) = 2
    rw [zpow_one]; norm_cast
  have e4 : Ideal.ofBits .f32 0x3F800000#32 = 1 := by
    rw [show (0x3F800000#32 : BitVec 32) = word 127 by decide +kernel, ofBits_word _ (by omega)]
    norm_num [val]
  rw [e1, zero_word, e3, e4]
  unfold expo Scalar.select Ideal.cmp
  by_cases h : t < two (-126)
  · rw [if_pos h, if_pos (by simp [h])]
  · rw [if_neg h, if_neg (by simp [h])]

theorem bits_of {t : EReal} (h : 0 ≤ t) (ht : t < two 126) :
    ∃ k, bits t = word k ∧ 0 < k ∧ k < 253 ∧ ((t < two (-126) ∧ k = 126) ∨ (two ((k : ℤ) - 127) ≤ t ∧ t < two ((k : ℤ) - 126))) := by
  obtain ⟨k, hk, h1, h2, h3⟩ := field_found h
  have hk253 : k < 253 := by
    by_contra hc
    have : val 253 ≤ t := (val_le (by omega) (by omega)).trans h2
    exact absurd (lt_of_le_of_lt this ht) (by simp [val])
  have h4 := h3 (by omega)
  have hz : field t = 0#32 ↔ k = 0 := by
    rw [hk]
    constructor
    · intro hh
      have e := (word_fields k (by omega)).1
      rw [hh] at e
      exact e.symm
    · rintro rfl; decide +kernel
  unfold bits
  by_cases k0 : k = 0
  · refine ⟨126, by rw [if_pos (hz.2 k0)]; rfl, by omega, by omega, .inl ⟨?_, rfl⟩⟩
    subst k0
    simpa [val] using h4
  · refine ⟨k, by rw [if_neg (fun hh => k0 (hz.1 hh)), hk], by omega, hk253, .inr ⟨?_, ?_⟩⟩
    · simpa [val, k0, show k ≠ 255 by omega] using h2
    · have := h4
      simp only [val, show k + 1 ≠ 0 by omega, show k + 1 ≠ 255 by omega, if_false] at this
      rwa [show ((k + 1 : ℕ) : ℤ) - 127 = (k : ℤ) - 126 by push_cast; ring] at this

theorem expo_of {t : EReal} {e : ℤ} (he : -126 ≤ e) (h1 : two e ≤ t) (h2 : t < two (e + 1)) : expo t = (((e + 1 : ℤ) : ℝ) : EReal) := by
  have hn : ¬ t < two (-126) := not_lt.2 ((two_le he).trans h1)
  induction t using EReal.rec with
  | bot => exact absurd (lt_of_lt_of_le (two_pos e) h1) (by simp)
  | top => exact absurd h2 (by simp)
  | coe r =>
    have h1' : (2 : ℝ) ^ e ≤ r := EReal.coe_le_coe_iff.1 h1
    have h2' : r < (2 : ℝ) ^ (e + 1) := EReal.coe_lt_coe_iff.1 h2
    have hr : 0 < r := lt_of_lt_of_le (by positivity) h1'
    have hl2 : 0 < Real.log 2 := Real.log_pos (by norm_num)
    have hlog2 : Ideal.log 2 = ((Real.log 2 : ℝ) : EReal) := by
      rw [show (2 : EReal) = ((2 : ℝ) : EReal) by norm_cast, Ideal.log_coe, if_neg (by norm_num)]
    have hfl : ⌊Real.log r / Real.log 2⌋ = e := by
      rw [Int.floor_eq_iff]
      constructor
      · rw [le_div_iff₀ hl2, ← Real.log_zpow]
        exact Real.log_le_log (by positivity) h1'
      · rw [div_lt_iff₀ hl2, show ((e : ℝ) + 1) = ((e + 1 : ℤ) : ℝ) by push_cast; ring, ← Real.log_zpow]
        exact Real.log_lt_log hr h2'
    unfold expo
    rw [if_neg hn, hlog2, Ideal.log_coe, if_neg (not_le.2 hr)]
    unfold Ideal.div
    rw [if_neg (by simpa using hl2.ne'), ← EReal.coe_inv, ← EReal.coe_mul, ← div_eq_mul_inv]
    show ((⌊Real.log r / Real.log 2⌋ : ℝ) : EReal) + 1 = _
    rw [hfl]
    push_cast
    rfl

theorem exp2_int (e : ℤ) : Ideal.exp2 (((e : ℤ) : ℝ) : EReal) = two e := by
  rw [Ideal.exp2_coe]
  congr 1
  exact Real.rpow_intCast 2 e

/-- The kernel's scale is two to the exponent, -/
theorem scaleW_eq {t : EReal} (h : 0 ≤ t) (ht : t < two 126) : scaleW t = Ideal.exp2 (expo t) := by
  obtain ⟨k, hk, h0, h1, hc⟩ := bits_of h ht
  have e1 : scaleW t = two ((k : ℤ) - 126) := by
    unfold scaleW
    rw [hk, show (8388608#32 : BitVec 32) = word 1 by decide +kernel, word_add, ofBits_word _ (by omega)]
    simp only [val, show k + 1 ≠ 0 by omega, show k + 1 ≠ 255 by omega, if_false]
    rw [show ((k + 1 : ℕ) : ℤ) - 127 = (k : ℤ) - 126 by push_cast; ring]
  rw [e1]
  rcases hc with ⟨hc, rfl⟩ | ⟨h2, h3⟩
  · unfold expo; rw [if_pos hc]; simpa using (exp2_int 0).symm
  · rw [expo_of (by omega) h2 (by rwa [show (k : ℤ) - 127 + 1 = (k : ℤ) - 126 by ring]), exp2_int]
    congr 2; ring

/-- and its inverse two to the exponent negated. -/
theorem invW_eq {t : EReal} (h : 0 ≤ t) (ht : t < two 126) : invW t = Ideal.exp2 (0 - expo t) := by
  obtain ⟨k, hk, h0, h1, hc⟩ := bits_of h ht
  have e1 : invW t = two (126 - (k : ℤ)) := by
    unfold invW
    have hw : (2122317824#32 : BitVec 32) - word k = word (253 - k) := by
      have : ∀ k : Fin 254, (2122317824#32 : BitVec 32) - word k = word (253 - k) := by decide +kernel
      exact this ⟨k, by omega⟩
    rw [hk, hw, ofBits_word _ (by omega)]
    simp only [val, show 253 - k ≠ 0 by omega, show 253 - k ≠ 255 by omega, if_false]
    rw [show ((253 - k : ℕ) : ℤ) - 127 = 126 - (k : ℤ) by omega]
  rw [e1]
  rcases hc with ⟨hc, rfl⟩ | ⟨h2, h3⟩
  · unfold expo; rw [if_pos hc]; simpa using (exp2_int 0).symm
  · rw [expo_of (by omega) h2 (by rwa [show (k : ℤ) - 127 + 1 = (k : ℤ) - 126 by ring]),
      show (0 : EReal) - (((k : ℤ) - 127 + 1 : ℤ) : ℝ) = (((126 - (k : ℤ) : ℤ) : ℝ) : EReal) by
        rw [← EReal.coe_zero, ← EReal.coe_sub]; congr 1; push_cast; ring, exp2_int]
end Cert.Pow2

end
-- ==== Proof.Spec.lean ====
/- RMS normalization and quantization of one row of 16384 numbers to groups of 128, on the extended reals: the formulas both
   programs are read as. -/
module

public import proofs.«01_k».proof.Proof.Pow2

@[expose] public section

noncomputable section

open Idealize.ShloMosaic
namespace Cert.Spec

/-- The index of entry `k` of group `J`. -/
abbrev at2 (J k : Fin 128) : Fin 16384 := ⟨J.val * 128 + k.val, by omega⟩
/-- The group of column `l`. -/
abbrev grp (l : Fin 16384) : Fin 128 := ⟨l.val / 128, by omega⟩

variable (x g : Fin 16384 → EReal)

/-- One over the root mean square. -/
def rnorm : EReal :=
  Ideal.rsqrt (Ideal.div (∑ l, x l * x l) (Ideal.ofBits .f32 0x46800000#32) + Ideal.ofBits .f32 0x358637BD#32)

/-- Entry `l`, normalized and multiplied by its gain. -/
def nval (l : Fin 16384) : EReal := x l * rnorm x * g l

/-- The largest magnitude of group `J` over the largest code. -/
def tq (J : Fin 128) : EReal :=
  (Finset.univ : Finset (Fin 128)).fold max (Ideal.ofBits .f32 0xFF800000#32) (fun k => max (nval x g (at2 J k)) (-nval x g (at2 J k)))
    * Ideal.ofBits .f32 0x3B124925#32

/-- The scale of group `J`, and the code of entry `l`. -/
def scale (J : Fin 128) : EReal := Ideal.exp2 (Pow2.expo (tq x g J))
def code (l : Fin 16384) : EReal :=
  min (Ideal.ofBits .f32 0x43E00000#32) (max (Ideal.ofBits .f32 0xC3E00000#32) (nval x g l * Ideal.exp2 (0 - Pow2.expo (tq x g (grp l)))))

/-- The entry recovered from its code. -/
def deq (l : Fin 16384) : EReal := code x g l * scale x g (grp l)

end Cert.Spec

end
-- ==== Proof.Range.lean ====
/- A normalized entry is at most 128 in magnitude; so with gains of at most `2 ^ 127` a group's largest magnitude over the largest
   code stays below `2 ^ 126`, where the searched words are the scale and its inverse. -/
module

public import proofs.«01_k».proof.Proof.Spec

@[expose] public section

noncomputable section

open Idealize.ShloMosaic
namespace Cert.Spec

theorem eps_word : ∃ e : ℝ, 0 < e ∧ Ideal.ofBits .f32 0x358637BD#32 = (e : EReal) := by
  refine ⟨(8388608 + 407485) * 2 ^ (107 - 150 : ℤ), by positivity, ?_⟩
  have e1 : ((0x358637BD#32 : BitVec 32).extractLsb' 23 8).toNat = 107 := by decide +kernel
  have e2 : ((0x358637BD#32 : BitVec 32).extractLsb' 0 23).toNat = 407485 := by decide +kernel
  have e3 : ((0x358637BD#32 : BitVec 32).extractLsb' (8 + 23) 1 == 1#1) = false := by decide +kernel
  show Ideal.ieee 8 23 (0x358637BD#32) = _
  unfold Ideal.ieee
  simp only [e1, e2, e3]
  norm_num

theorem code_word : ∃ e : ℝ, 0 < e ∧ e < 2 ^ (-8 : ℤ) ∧ Ideal.ofBits .f32 0x3B124925#32 = (e : EReal) := by
  refine ⟨(8388608 + 1198373) * 2 ^ (118 - 150 : ℤ), by positivity, by norm_num, ?_⟩
  have e1 : ((0x3B124925#32 : BitVec 32).extractLsb' 23 8).toNat = 118 := by decide +kernel
  have e2 : ((0x3B124925#32 : BitVec 32).extractLsb' 0 23).toNat = 1198373 := by decide +kernel
  have e3 : ((0x3B124925#32 : BitVec 32).extractLsb' (8 + 23) 1 == 1#1) = false := by decide +kernel
  show Ideal.ieee 8 23 (0x3B124925#32) = _
  unfold Ideal.ieee
  simp only [e1, e2, e3]
  norm_num

theorem bot_word : Ideal.ofBits .f32 0xFF800000#32 = ⊥ := by
  have e1 : ((0xFF800000#32 : BitVec 32).extractLsb' 23 8).toNat = 255 := by decide +kernel
  have e2 : ((0xFF800000#32 : BitVec 32).extractLsb' 0 23).toNat = 0 := by decide +kernel
  have e3 : ((0xFF800000#32 : BitVec 32).extractLsb' (8 + 23) 1 == 1#1) = true := by decide +kernel
  show Ideal.ieee 8 23 (0xFF800000#32) = _
  unfold Ideal.ieee
  simp only [e1, e2, e3]
  norm_num

theorem n_word : Ideal.ofBits .f32 0x46800000#32 = (((2 : ℝ) ^ (14 : ℤ) : ℝ) : EReal) := by
  rw [show (0x46800000#32 : BitVec 32) = Pow2.word 141 by decide +kernel, Pow2.ofBits_word _ (by omega)]
  norm_num [Pow2.val]

theorem inv_n_word : Ideal.ofBits .f32 0x38800000#32 = (((2 : ℝ) ^ (-14 : ℤ) : ℝ) : EReal) := by
  rw [show (0x38800000#32 : BitVec 32) = Pow2.word 113 by decide +kernel, Pow2.ofBits_word _ (by omega)]
  norm_num [Pow2.val]

/-- Dividing by 16384 is multiplying by its inverse. -/
theorem div_n (S : EReal) : Ideal.div S (Ideal.ofBits .f32 0x46800000#32) = S * Ideal.ofBits .f32 0x38800000#32 := by
  rw [n_word, inv_n_word]
  unfold Ideal.div
  rw [if_neg (by rw [← EReal.coe_zero, EReal.coe_eq_coe_iff]; positivity), ← EReal.coe_inv, ← zpow_neg]

variable (x g : Fin 16384 → EReal)

theorem norm_real (l : Fin 16384) : ∃ v : ℝ, x l * rnorm x = (v : EReal) ∧ |v| ≤ 128 := by
  obtain ⟨e, he, hE⟩ := eps_word
  have hsq : ∀ a : EReal, 0 ≤ a * a := fun a => by
    induction a using EReal.rec with
    | bot => simp
    | top => simp
    | coe r => rw [← EReal.coe_mul]; exact EReal.coe_nonneg.2 (mul_self_nonneg r)
  by_cases hfin : ∀ k, x k ≠ ⊤ ∧ x k ≠ ⊥
  · choose a ha using fun k => (⟨(x k).toReal, (EReal.coe_toReal (hfin k).1 (hfin k).2).symm⟩ : ∃ a : ℝ, x k = (a : EReal))
    have hS : (∑ k, x k * x k) = ((∑ k, a k * a k : ℝ) : EReal) := by
      refine Eq.trans ?_ (map_sum (⟨⟨Real.toEReal, EReal.coe_zero⟩, EReal.coe_add⟩ : ℝ →+ EReal) _ _).symm
      exact Finset.sum_congr rfl fun k _ => by rw [ha]; rfl
    have h0 : 0 ≤ ∑ k, a k * a k := Finset.sum_nonneg fun k _ => mul_self_nonneg _
    have hl : a l * a l ≤ ∑ k, a k * a k :=
      Finset.single_le_sum (f := fun k => a k * a k) (fun k _ => mul_self_nonneg _) (Finset.mem_univ l)
    set D : ℝ := (∑ k, a k * a k) * 2 ^ (-14 : ℤ) + e with hD
    have hDp : 0 < D := add_pos_of_nonneg_of_pos (mul_nonneg h0 (by positivity)) he
    have hr : rnorm x = (((Real.sqrt D)⁻¹ : ℝ) : EReal) := by
      unfold rnorm
      rw [div_n, hS, inv_n_word, hE, ← EReal.coe_mul, ← EReal.coe_add, ← hD, Ideal.rsqrt_coe, if_neg (not_lt.2 hDp.le), if_neg hDp.ne']
    refine ⟨a l * (Real.sqrt D)⁻¹, by rw [hr, ha, EReal.coe_mul], ?_⟩
    have hs : 0 < Real.sqrt D := Real.sqrt_pos.2 hDp
    rw [abs_mul, abs_of_pos (inv_pos.2 hs), ← div_eq_mul_inv, div_le_iff₀ hs]
    refine abs_le_of_sq_le_sq ?_ (mul_nonneg (by norm_num) hs.le)
    rw [mul_pow, Real.sq_sqrt hDp.le, hD]
    norm_num
    nlinarith
  · push Not at hfin
    obtain ⟨k, hk⟩ := hfin
    have hkk : x k * x k = ⊤ := by
      by_cases h : x k = ⊤
      · rw [h]; rfl
      · rw [hk h]; rfl
    have hS : (∑ k, x k * x k) = ⊤ := by
      refine top_le_iff.1 ?_
      rw [← hkk]
      exact Finset.single_le_sum (f := fun k => x k * x k) (fun k _ => hsq _) (Finset.mem_univ k)
    have hr : rnorm x = 0 := by
      unfold rnorm
      rw [div_n, hS, inv_n_word, hE, EReal.top_mul_coe_of_pos (by positivity), EReal.top_add_coe, Ideal.rsqrt_top]
    exact ⟨0, by rw [hr, mul_zero, EReal.coe_zero], by norm_num⟩

variable (hg : ∀ l, max (g l) (-g l) ≤ Pow2.two 127)
include hg

theorem nval_real (l : Fin 16384) : ∃ v : ℝ, nval x g l = (v : EReal) ∧ |v| ≤ 2 ^ (134 : ℤ) := by
  obtain ⟨v, hv, hb⟩ := norm_real x l
  have h := hg l
  obtain ⟨b, hgb⟩ : ∃ b : ℝ, g l = (b : EReal) := by
    refine ⟨(g l).toReal, (EReal.coe_toReal ?_ ?_).symm⟩
    · intro hh; rw [hh] at h; exact absurd h (by simp)
    · intro hh; rw [hh] at h; exact absurd h (by simp)
  have hbb : |b| ≤ 2 ^ (127 : ℤ) := by
    rw [hgb, ← EReal.coe_neg] at h
    rw [abs_le']
    exact ⟨EReal.coe_le_coe_iff.1 ((le_max_left _ _).trans h), EReal.coe_le_coe_iff.1 ((le_max_right _ _).trans h)⟩
  refine ⟨v * b, by unfold nval; rw [hv, hgb, EReal.coe_mul], ?_⟩
  rw [abs_mul]
  calc |v| * |b| ≤ 128 * 2 ^ (127 : ℤ) := mul_le_mul hb hbb (abs_nonneg _) (by norm_num)
    _ = 2 ^ (134 : ℤ) := by norm_num

theorem tq_range (J : Fin 128) : 0 ≤ tq x g J ∧ tq x g J < Pow2.two 126 := by
  obtain ⟨c, hc, hc8, hC⟩ := code_word
  unfold tq
  rw [bot_word, hC]
  set M := (Finset.univ : Finset (Fin 128)).fold max (⊥ : EReal) (fun k => max (nval x g (at2 J k)) (-nval x g (at2 J k))) with hM
  have h1 : M ≤ ((2 ^ (134 : ℤ) : ℝ) : EReal) := by
    rw [hM, Finset.fold_max_le]
    refine ⟨bot_le, fun k _ => ?_⟩
    obtain ⟨v, hv, hb⟩ := nval_real x g hg (at2 J k)
    rw [hv, ← EReal.coe_neg]
    exact max_le (EReal.coe_le_coe_iff.2 (abs_le'.1 hb).1) (EReal.coe_le_coe_iff.2 (abs_le'.1 hb).2)
  have h0 : 0 ≤ M := by
    rw [hM, Finset.le_fold_max]
    refine .inr ⟨0, Finset.mem_univ _, ?_⟩
    obtain ⟨v, hv, hb⟩ := nval_real x g hg (at2 J 0)
    rw [hv, ← EReal.coe_neg, ← EReal.coe_zero]
    rcases le_total 0 v with h | h
    · exact le_max_of_le_left (EReal.coe_le_coe_iff.2 h)
    · exact le_max_of_le_right (EReal.coe_le_coe_iff.2 (neg_nonneg.2 h))
  clear_value M
  induction M using EReal.rec with
  | bot => exact absurd h0 (by simp)
  | top => exact absurd h1 (not_le.2 (EReal.coe_lt_top _))
  | coe r =>
    have h0' : 0 ≤ r := EReal.coe_nonneg.1 h0
    have h1' : r ≤ 2 ^ (134 : ℤ) := EReal.coe_le_coe_iff.1 h1
    rw [← EReal.coe_mul]
    refine ⟨EReal.coe_nonneg.2 (by positivity), EReal.coe_lt_coe_iff.2 ?_⟩
    calc r * c ≤ 2 ^ (134 : ℤ) * c := mul_le_mul_of_nonneg_right h1' hc.le
      _ < 2 ^ (134 : ℤ) * 2 ^ (-8 : ℤ) := mul_lt_mul_of_pos_left hc8 (by positivity)
      _ = 2 ^ (126 : ℤ) := by norm_num

theorem scale_word (J : Fin 128) : Pow2.scaleW (tq x g J) = scale x g J :=
  Pow2.scaleW_eq (tq_range x g hg J).1 (tq_range x g hg J).2

theorem inv_word (J : Fin 128) : Pow2.invW (tq x g J) = Ideal.exp2 (0 - Pow2.expo (tq x g J)) :=
  Pow2.invW_eq (tq_range x g hg J).1 (tq_range x g hg J).2

end Cert.Spec

end
-- ==== Proof.QuantValue.lean ====
/- The first kernel's three output blocks read at an entry: the normalization and quantization of each row. -/
module

public import proofs.«01_k».proof.Proof.QuantBody
public import proofs.«01_k».proof.Proof.Range
public import Idealize.ShloMosaic.PureOps.Ideal.Laws

@[expose] public section

set_option maxRecDepth 16384

noncomputable section

open Idealize.ShloMosaic Idealize.ShloMosaic.TcCoe Idealize.SL.Sem
namespace Cert.KernelIdeal.Quant
open Cert.KernelIdeal Cert.KernelIdeal.Gen

variable (x0 : FVec Ideal S128x16384 .bf16) (x1 : FVec Ideal S1x16384 .f32)

/-- A row of the block, and the gains. -/
def row (r : Fin 128) (l : Fin 16384) : EReal := x0 (ix2 r l)
def gains (l : Fin 16384) : EReal := x1 (ix2 0 l)

theorem xs_at (j : Fin 128) (y : S128x128.Idx) : xs (F := Ideal) x0 j.val j.isLt y = row x0 (y 0) (Spec.at2 j (y 1)) := by
  unfold xs
  pointwise
  exact congrArg (fun l => x0 (ix2 (y 0) l)) (Fin.ext (by show 128 * j.val + (y 1 : ℕ) = j.val * 128 + (y 1 : ℕ); omega))

theorem gain_at (j : Fin 128) (y : S128x128.Idx) : (broadcastTo S128x128 (shapeCast S1x128 (View.ld (Val := Elt Ideal) (e' := .f32) x1 (gainR j.val j.isLt))
    shapeCasts_S1x128_S1x128) broadcasts_S1x128_S128x128 : FVec Ideal S128x128 .f32) y = gains x1 (Spec.at2 j (y 1)) := by
  pointwise
  exact congrArg (fun l => x1 (ix2 0 l)) (Fin.ext (by show 128 * j.val + (y 1 : ℕ) = j.val * 128 + (y 1 : ℕ); omega))

theorem ssum_at (y : S128x128.Idx) (n : ℕ) (h : n ≤ 128) : ssum (F := Ideal) x0 n h y
    = ∑ k : Fin n, row x0 (y 0) (Spec.at2 ⟨k.val, by omega⟩ (y 1)) * row x0 (y 0) (Spec.at2 ⟨k.val, by omega⟩ (y 1)) := by
  induction n with
  | zero => exact Pow2.zero_word
  | succ n ih =>
    rw [Fin.sum_univ_castSucc]
    have hx := xs_at x0 ⟨n, h⟩ y
    show (show EReal from ssum (F := Ideal) x0 n _ y) + (show EReal from xs (F := Ideal) x0 n h y) * (show EReal from xs (F := Ideal) x0 n h y) = _
    rw [ih, hx]
    rfl

theorem rinv_at (y : S128x1.Idx) : rinv (F := Ideal) x0 y = Spec.rnorm (row x0 (y 0)) := by
  unfold rinv
  have hs := fun y => ssum_at x0 y 128 (le_refl 128)
  generalize ssum (F := Ideal) x0 128 (le_refl 128) = s at hs
  pointwise
  unfold Spec.rnorm
  rw [Spec.div_n]
  refine congrArg (fun S => Ideal.rsqrt (S * _ + _)) ?_
  refine (Finset.sum_congr rfl fun k _ => hs (ix2 (y 0) k)).trans ?_
  rw [Finset.sum_comm]
  exact Fin.sum_mul_add_fin 128 128 (fun l => row x0 (y 0) l * row x0 (y 0) l)

theorem nrm_at (j : Fin 128) (y : S128x128.Idx) :
    nrm (F := Ideal) x0 x1 j.val j.isLt y = Spec.nval (row x0 (y 0)) (gains x1) (Spec.at2 j (y 1)) := by
  have h1 := xs_at x0 j y
  have h2 : (broadcastTo S128x128 (rinv (F := Ideal) x0) broadcasts_S128x1_S128x128 : FVec Ideal S128x128 .f32) y = Spec.rnorm (row x0 (y 0)) := by
    have h := rinv_at x0 (ix2 (y 0) 0)
    generalize rinv (F := Ideal) x0 = v at h ⊢
    pointwise
    exact h
  have h3 := gain_at x1 j y
  exact congrArg₂ (· * · : EReal → EReal → EReal) (congrArg₂ (· * · : EReal → EReal → EReal) h1 h2) h3

/-- The largest magnitude along the last axis. -/
theorem amax_at (n : FVec Ideal S128x128 .f32) (j : S128.Idx) :
    multiReduction (F := Ideal) .maximumf [1] S128 (absf n) 0xFF800000#32 reduces_S128x128_S128 (.inl rfl) rfl j
      = (Finset.univ : Finset (Fin 128)).fold max (Ideal.ofBits .f32 0xFF800000#32)
        (fun k => max (show EReal from n (ix2 (j 0) k)) (-(show EReal from n (ix2 (j 0) k)))) := by
  refine (Ideal.multiReduction_maximumf_single (φ := .f32) _ _ _ _ _ j).trans ?_
  have e : ∀ k : Fin 128, reduces_S128x128_S128.lift j k = ix2 (j 0) k := by
    intro k
    funext a
    match a with
    | ⟨0, _⟩ => rfl
    | ⟨1, _⟩ => rfl
  refine congrArg (fun f => Finset.fold max (Ideal.ofBits .f32 0xFF800000#32) f (Finset.univ : Finset (Fin 128))) (funext fun k => ?_)
  show (show EReal from absf n (reduces_S128x128_S128.lift j k)) = _
  rw [e k]
  rfl

theorem col_at (v : FVec Ideal S128 .f32) (y : S128x128.Idx) : (broadcastTo S128x128 (shapeCast S128x1 (shapeCast S128x1 v shapeCasts_S128_S128x1)
    shapeCasts_S128x1_S128x1) broadcasts_S128x1_S128x128 : FVec Ideal S128x128 .f32) y = v (ix1 (y 0)) := by
  pointwise

theorem scaled_at (c : BitVec 32) (v : FVec Ideal S128x128 .f32) (y : S128x128.Idx) (A : EReal) (hA : v y = A) :
    mulf v (broadcast S128x128 (Scalar.ofBits .f32 c)) y = A * Ideal.ofBits .f32 c := by
  subst hA; rfl

theorem tval_at (j : Fin 128) (y : S128x128.Idx) : tval (F := Ideal) x0 x1 j.val j.isLt y = Spec.tq (row x0 (y 0)) (gains x1) j := by
  unfold tval
  refine (scaled_at _ _ y _ ((col_at _ y).trans (amax_at _ _))).trans ?_
  unfold Spec.tq
  refine congrArg (· * _) ?_
  refine congrArg (fun f => Finset.fold max (Ideal.ofBits .f32 0xFF800000#32) f (Finset.univ : Finset (Fin 128))) (funext fun k => ?_)
  have h := nrm_at x0 x1 j (ix2 (y 0) k)
  exact congrArg (fun v : EReal => max v (-v)) h

theorem select_decide {α : Type} (p : Prop) [Decidable p] (a b : α) : Scalar.select (BitVec.ofBool (decide p)) a b = if p then a else b := by
  unfold Scalar.select
  by_cases h : p <;> simp [h]

theorem mask_at (c0 c1 : BitVec 32) (f : IVec S128x128 32) (y : S128x128.Idx) (w : BitVec 32) (hw : f y = w) :
    select (cmpi .eq f (broadcast S128x128 c0)) (broadcast S128x128 c1) f y = if w = c0 then c1 else w := by
  subst hw
  exact select_decide (f y = c0) c1 (f y)

theorem plus_at (c : BitVec 32) (f : IVec S128x128 32) (y : S128x128.Idx) (w : BitVec 32) (hw : f y = w) :
    (bitcastToFloat .f32 (addi f (broadcast S128x128 c)) : FVec Ideal S128x128 .f32) y = Ideal.ofBits .f32 (w + c) := by
  subst hw; rfl

theorem minus_at (c : BitVec 32) (f : IVec S128x128 32) (y : S128x128.Idx) (w : BitVec 32) (hw : f y = w) :
    (bitcastToFloat .f32 (subi (broadcast S128x128 c) f) : FVec Ideal S128x128 .f32) y = Ideal.ofBits .f32 (c - w) := by
  subst hw; rfl

section Words
variable (t : FVec Ideal S128x128 .f32) (y : S128x128.Idx) (T : EReal) (hT : t y = T)
include hT

theorem stepV_at (f : IVec S128x128 32) (b : BitVec 32) (w : BitVec 32) (hw : f y = w) : stepV t f b y = Pow2.step T w b := by
  subst hT hw
  exact select_decide ((show EReal from t y) < Ideal.ofBits .f32 (f y + b)) (f y) (f y + b)

theorem fieldV_at : fieldV t y = Pow2.field T :=
  stepV_at t y T hT _ _ _ (stepV_at t y T hT _ _ _ (stepV_at t y T hT _ _ _ (stepV_at t y T hT _ _ _ (stepV_at t y T hT _ _ _
    (stepV_at t y T hT _ _ _ (stepV_at t y T hT _ _ _ (stepV_at t y T hT _ _ _ rfl)))))))

theorem bitsV_at : bitsV t y = Pow2.bits T := by
  unfold bitsV Pow2.bits
  exact mask_at _ _ _ y _ (fieldV_at t y T hT)

theorem scaleV_at : scaleV t y = Pow2.scaleW T := by
  unfold scaleV Pow2.scaleW
  exact plus_at _ _ y _ (bitsV_at t y T hT)

theorem invV_at : invV t y = Pow2.invW T := by
  unfold invV Pow2.invW
  exact minus_at _ _ y _ (bitsV_at t y T hT)
end Words

theorem clip_at (c0 c1 : BitVec 32) (n e : FVec Ideal S128x128 .f32) (y : S128x128.Idx) (N E : EReal) (hN : n y = N) (hE : e y = E) :
    truncf .fp8e4m3 (minimumf (broadcast S128x128 (Scalar.ofBits .f32 c1)) (maximumf (broadcast S128x128 (Scalar.ofBits .f32 c0)) (mulf n e)))
      bitsLt_fp8e4m3_f32 y = min (Ideal.ofBits .f32 c1) (max (Ideal.ofBits .f32 c0) (N * E)) := by
  subst hN hE
  rfl

theorem deq_at (q : FVec Ideal S128x128 .fp8e4m3) (s : FVec Ideal S128x128 .f32) (y : S128x128.Idx) (Q S : EReal) (hQ : q y = Q) (hS : s y = S) :
    mulf (extf .bf16 q bitsLt_fp8e4m3_bf16) (truncf .bf16 s bitsLt_bf16_f32) y = Q * S := by
  subst hQ hS
  rfl

variable (hg : ∀ l, max (gains x1 l) (-gains x1 l) ≤ Pow2.two 127)
include hg

theorem codesV_at (j : Fin 128) (y : S128x128.Idx) :
    codesV (F := Ideal) x0 x1 j.val j.isLt y = Spec.code (row x0 (y 0)) (gains x1) (Spec.at2 j (y 1)) := by
  unfold codesV
  refine (clip_at _ _ _ _ y _ _ (nrm_at x0 x1 j y) (invV_at _ y _ (tval_at x0 x1 j y))).trans ?_
  rw [Spec.inv_word _ _ hg]
  unfold Spec.code
  rw [show Spec.grp (Spec.at2 j (y 1)) = j from Fin.ext (by
    have h3 : (y 1 : ℕ) < 128 := (y 1).isLt
    show (j.val * 128 + (y 1 : ℕ)) / 128 = j.val; omega)]

theorem scale_at (j : Fin 128) (y : S128x128.Idx) :
    scaleV (tval (F := Ideal) x0 x1 j.val j.isLt) y = Spec.scale (row x0 (y 0)) (gains x1) j :=
  (scaleV_at _ y _ (tval_at x0 x1 j y)).trans (Spec.scale_word _ _ hg j)

theorem scaleC_at (j : Fin 128) (y : S128x1.Idx) :
    scaleC (F := Ideal) x0 x1 j.val j.isLt y = Spec.scale (row x0 (y 0)) (gains x1) j := by
  unfold scaleC
  have h := fun k => scale_at x0 x1 hg j (ix2 (y 0) k)
  generalize scaleV (tval (F := Ideal) x0 x1 j.val j.isLt) = s at h ⊢
  pointwise
  exact h _

theorem xqV_at (j : Fin 128) (y : S128x128.Idx) : xqV (F := Ideal) x0 x1 j.val j.isLt y = Spec.deq (row x0 (y 0)) (gains x1) (Spec.at2 j (y 1)) := by
  unfold xqV
  refine (deq_at _ _ y _ _ (codesV_at x0 x1 hg j y) (scale_at x0 x1 hg j y)).trans ?_
  unfold Spec.deq
  rw [show Spec.grp (Spec.at2 j (y 1)) = j from Fin.ext (by
    have h3 : (y 1 : ℕ) < 128 := (y 1).isLt
    show (j.val * 128 + (y 1 : ℕ)) / 128 = j.val; omega)]

/-- The three output blocks at an entry. -/
theorem codes_out (y : S128x16384.Idx) : out0_2 (F := Ideal) x0 x1 y = Spec.code (row x0 (y 0)) (gains x1) (y 1) := by
  have h1 : (y 1 : ℕ) < 16384 := (y 1).isLt
  rw [codes_eq, tiles_at (F := Ideal) _ ((y 1 : ℕ) / 128) (by omega) (ix2 (y 0) ⟨(y 1 : ℕ) % 128, by omega⟩) y rfl
    (by show (y 1 : ℕ) = 128 * ((y 1 : ℕ) / 128) + (y 1 : ℕ) % 128; omega) 128 _ (by omega)]
  refine (codesV_at x0 x1 hg ⟨(y 1 : ℕ) / 128, by omega⟩ _).trans ?_
  exact congrArg (Spec.code (row x0 (y 0)) (gains x1)) (Fin.ext (by show (y 1 : ℕ) / 128 * 128 + (y 1 : ℕ) % 128 = (y 1 : ℕ); omega))

theorem xq_out (y : S128x16384.Idx) : out0_4 (F := Ideal) x0 x1 y = Spec.deq (row x0 (y 0)) (gains x1) (y 1) := by
  have h1 : (y 1 : ℕ) < 16384 := (y 1).isLt
  rw [xq_eq, tiles_at (F := Ideal) _ ((y 1 : ℕ) / 128) (by omega) (ix2 (y 0) ⟨(y 1 : ℕ) % 128, by omega⟩) y rfl
    (by show (y 1 : ℕ) = 128 * ((y 1 : ℕ) / 128) + (y 1 : ℕ) % 128; omega) 128 _ (by omega)]
  refine (xqV_at x0 x1 hg ⟨(y 1 : ℕ) / 128, by omega⟩ _).trans ?_
  exact congrArg (Spec.deq (row x0 (y 0)) (gains x1)) (Fin.ext (by show (y 1 : ℕ) / 128 * 128 + (y 1 : ℕ) % 128 = (y 1 : ℕ); omega))

theorem scale_out (y : S128x128.Idx) : out0_3 (F := Ideal) x0 x1 y = Spec.scale (row x0 (y 0)) (gains x1) (y 1) := by
  rw [scale_eq, cols_at (F := Ideal) _ (y 1 : ℕ) (y 1).isLt (ix2 (y 0) 0) y rfl rfl 128 _ (y 1).isLt]
  exact scaleC_at x0 x1 hg (y 1) _
end Cert.KernelIdeal.Quant

end
-- ==== Proof.QuantArrays.lean ====
/- The first kernel's three result arrays as functions of its two argument arrays: every row is normalized and quantized by
   itself, so the blocks of 128 rows put together are the arrays of all rows. -/
module

public import proofs.«01_k».proof.Proof.QuantValue
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
namespace Cert.KernelIdeal.Quant
open Cert.KernelIdeal Cert.KernelIdeal.Gen

/-- A row of the array of activations, and the gains. -/
def rowA (X : FVec Ideal S16384x16384 .bf16) (R : Fin 16384) (l : Fin 16384) : EReal := X (ix2 R l)
def gainsA (G : FVec Ideal S1x16384 .f32) (l : Fin 16384) : EReal := G (ix2 0 l)

/-- The three arrays. -/
def codesA (X : FVec Ideal S16384x16384 .bf16) (G : FVec Ideal S1x16384 .f32) : FVec Ideal S16384x16384 .fp8e4m3 :=
  fun j => Spec.code (rowA X (j 0)) (gainsA G) (j 1)
def scaleA (X : FVec Ideal S16384x16384 .bf16) (G : FVec Ideal S1x16384 .f32) : FVec Ideal S16384x128 .f32 :=
  fun j => Spec.scale (rowA X (j 0)) (gainsA G) (j 1)
def xqA (X : FVec Ideal S16384x16384 .bf16) (G : FVec Ideal S1x16384 .f32) : FVec Ideal S16384x16384 .bf16 :=
  fun j => Spec.deq (rowA X (j 0)) (gainsA G) (j 1)

/-- The windows' block indices at every grid point. -/
theorem idx : ∀ t : Fin cfg0.N, win0_0.index t = ![(grid0.coords t 0).val, 0] ∧ win0_1.index t = ![0, 0]
    ∧ win0_2.index t = ![(grid0.coords t 0).val, 0] ∧ win0_3.index t = ![(grid0.coords t 0).val, 0]
    ∧ win0_4.index t = ![(grid0.coords t 0).val, 0] :=
  (by decide +kernel : ∀ t : Fin grid0.N, _)

variable (V : (c : Dev nD) → (b : Ref sig .tc) → Buf (Elt Ideal) ((c : Thread nD τ).loc b))

theorem row_blk (c : Dev nD) (t : Fin cfg0.N) (r : Fin 128) (R : Fin 16384)
    (h : (R : ℕ) = (grid0.coords t 0).val * 128 + r.val) : row (iblk0 V c 0 t) r = rowA (V c main_v0) R := by
  funext l
  show iblk0 V c 0 t (ix2 r l) = V c main_v0 (ix2 R l)
  blk_ext [iblk0, idx t]

theorem gains_blk (c : Dev nD) (t : Fin cfg0.N) : gains (iblk0 V c 1 t) = gainsA (V c main_v1) := by
  funext l
  show iblk0 V c 1 t (ix2 0 l) = V c main_v1 (ix2 0 l)
  blk_ext [iblk0, idx t]

variable (c : Dev nD) (hg : ∀ l, max (gainsA (V c main_v1) l) (-gainsA (V c main_v1) l) ≤ Pow2.two 127)
include hg

theorem codes_point (t : Fin cfg0.N) (y : S128x16384.Idx) (j : S16384x16384.Idx)
    (h0 : (j 0 : ℕ) = (grid0.coords t 0).val * 128 + (y 0).val) (h1 : (j 1 : ℕ) = (y 1).val) :
    out0_2 (F := Ideal) (iblk0 V c 0 t) (iblk0 V c 1 t) y = codesA (V c main_v0) (V c main_v1) j := by
  rw [codes_out _ _ (by rw [gains_blk V c t]; exact hg), row_blk V c t (y 0) (j 0) h0, gains_blk V c t]
  exact congrArg _ (Fin.ext h1.symm)

theorem scale_point (t : Fin cfg0.N) (y : S128x128.Idx) (j : S16384x128.Idx)
    (h0 : (j 0 : ℕ) = (grid0.coords t 0).val * 128 + (y 0).val) (h1 : (j 1 : ℕ) = (y 1).val) :
    out0_3 (F := Ideal) (iblk0 V c 0 t) (iblk0 V c 1 t) y = scaleA (V c main_v0) (V c main_v1) j := by
  rw [scale_out _ _ (by rw [gains_blk V c t]; exact hg), row_blk V c t (y 0) (j 0) h0, gains_blk V c t]
  exact congrArg _ (Fin.ext h1.symm)

theorem xq_point (t : Fin cfg0.N) (y : S128x16384.Idx) (j : S16384x16384.Idx)
    (h0 : (j 0 : ℕ) = (grid0.coords t 0).val * 128 + (y 0).val) (h1 : (j 1 : ℕ) = (y 1).val) :
    out0_4 (F := Ideal) (iblk0 V c 0 t) (iblk0 V c 1 t) y = xqA (V c main_v0) (V c main_v1) j := by
  rw [xq_out _ _ (by rw [gains_blk V c t]; exact hg), row_blk V c t (y 0) (j 0) h0, gains_blk V c t]
  exact congrArg _ (Fin.ext h1.symm)

theorem codes_final : (dat0 V c).arrAt 2 cfg0.N = codesA (V c main_v0) (V c main_v1) := by
  refine (dat0 V c).arrAt_eq_of_covers 2 _ (by decide +kernel) fun t _ y => ?_
  blk_simp
  rw [after0_2]
  refine codes_point V c hg t y _ ?_ ?_
  · blk_simp [idx t]
  · blk_simp [idx t]

theorem scale_final : (dat0 V c).arrAt 3 cfg0.N = scaleA (V c main_v0) (V c main_v1) := by
  refine (dat0 V c).arrAt_eq_of_covers 3 _ (by decide +kernel) fun t _ y => ?_
  blk_simp
  rw [after0_3]
  refine scale_point V c hg t y _ ?_ ?_
  · blk_simp [idx t]
  · blk_simp [idx t]

theorem xq_final : (dat0 V c).arrAt 4 cfg0.N = xqA (V c main_v0) (V c main_v1) := by
  refine (dat0 V c).arrAt_eq_of_covers 4 _ (by decide +kernel) fun t _ y => ?_
  blk_simp
  rw [after0_4]
  refine xq_point V c hg t y _ ?_ ?_
  · blk_simp [idx t]
  · blk_simp [idx t]
end Cert.KernelIdeal.Quant

end
-- ==== Proof.MatmulValue.lean ====
/- The value of the second kernel, the block matmul. The generated frame leaves, at a grid point, one store of a long chain of named values;
   `pieces` says that chain is `accum`, a loop over the 32 chunks of 512 columns, by definitional unfolding. `accum_at` reads it
   at an entry as a sum of products, and `final` puts the blocks together. -/
module

public import proofs.«01_k».proof.Proof.Gen.KernelIdeal.Frame
public import Idealize.ShloMosaic.Lib.Pipeline.ValueKit
public import Idealize.ShloMosaic.Lib.WholeRead

@[expose] public section

set_option maxRecDepth 16384

noncomputable section

open Idealize.ShloMosaic Idealize.ShloMosaic.TcCoe Idealize.SL.Sem
open Idealize.ShloMosaic.Pipeline (Dat)
namespace Cert.KernelIdeal.Product
open Cert.KernelIdeal Cert.KernelIdeal.Gen

/-! ## The body as a loop over the 32 chunks -/

section Body
variable {F : FTy → Type} [FloatOps F] (i : grid1.Coords)
variable (arg2 : Memref sig .tc .smem S48x128 .f32) (harg2 : arg2.IsWhole) (arg3 : Memref sig .tc .vmem S512x16384 .bf16)
  (harg3 : arg3.IsWhole) (arg4 : Memref sig .tc .vmem S512x16384 .fp8e4m3) (harg4 : arg4.IsWhole)
variable (x0 : Vec F S48x128 .f32) (x1 : Vec F S512x16384 .bf16) (x2 : Vec F S512x16384 .fp8e4m3)

/-- Where the scale of weight group (`b`, `c`) of this block of rows lies in the table: row `4 * (i 1) + b`, column `c`. -/
def scaleOff (b : Fin 4) (c : ℕ) : Fin 2 → ℕ :=
  ![(Scalar.addi (Scalar.muli (BitVec.ofNat 32 (i 1).val) 4#32) (BitVec.ofNat 32 b.val)).toNat, c]

theorem scaleOff_row : ∀ (i : grid1.Coords) (b : Fin 4),
    (Scalar.addi (Scalar.muli (BitVec.ofNat 32 (i 1).val) 4#32) (BitVec.ofNat 32 b.val)).toNat = 4 * (i 1).val + b.val := by
  intro i b
  have h1 : (i 1).val < 12 := (i 1).isLt
  have h2 := b.isLt
  simp only [Scalar.addi, Scalar.muli, IntOp.addi, IntOp.muli]
  bv_omega

theorem scaleOff_inb (b : Fin 4) (c : ℕ) (hc : c < 128) : ∀ a, scaleOff i b c a + S1x1.size a ≤ S48x128.size a := by
  have h1 : (i 1).val < 12 := (i 1).isLt
  have h2 := b.isLt
  intro a
  match a with
  | ⟨0, _⟩ =>
    show (Scalar.addi (Scalar.muli (BitVec.ofNat 32 (i 1).val) 4#32) (BitVec.ofNat 32 b.val)).toNat + 1 ≤ 48
    rw [scaleOff_row]; omega
  | ⟨1, _⟩ => show c + 1 ≤ 128; omega

/-- The scale of weight group (`b`, `c`). -/
def scaleAt (b : Fin 4) (c : ℕ) (hc : c < 128) : Elt F .f32 :=
  arg2.view.readAt (Elt F) (Rect.unit (s := S48x128) (scaleOff i b c) S1x1.size (scaleOff_inb i b c hc)).toLoadRect
    (harg2.unread x0) (Shape.Idx.first (show 0 < S1x1.numel by decide))

theorem codes_inb (b : Fin 4) (c : ℕ) (hc : c < 128) : ∀ a, (![128 * b.val, 128 * c] : Fin 2 → ℕ) a + S128x128.size a ≤ S512x16384.size a := by
  have h2 := b.isLt
  intro a
  match a with
  | ⟨0, _⟩ => show 128 * b.val + 128 ≤ 512; omega
  | ⟨1, _⟩ => show 128 * c + 128 ≤ 16384; omega

/-- Weight group (`b`, `c`), dequantized. -/
def group (b : Fin 4) (c : ℕ) (hc : c < 128) : FVec F S128x128 .bf16 :=
  mulf (extf .bf16 (arg4.view.readAt (Elt F)
      (Rect.unit (s := S512x16384) ![128 * b.val, 128 * c] S128x128.size (codes_inb b c hc)).toLoadRect
      (harg4.unread x2)) bitsLt_fp8e4m3_bf16)
    (truncf .bf16 (broadcast S128x128 (scaleAt i arg2 harg2 x0 b c hc)) bitsLt_bf16_f32)

/-- The four groups of row `b` in chunk `k`, side by side. -/
def groupRow (k : Fin 32) (b : Fin 4) : FVec F S128x512 .bf16 :=
  have := k.isLt
  concatenate S128x512 1 [⟨S128x128, group i arg2 harg2 arg4 harg4 x0 x2 b (4 * k.val) (by omega)⟩,
    ⟨S128x128, group i arg2 harg2 arg4 harg4 x0 x2 b (4 * k.val + 1) (by omega)⟩,
    ⟨S128x128, group i arg2 harg2 arg4 harg4 x0 x2 b (4 * k.val + 2) (by omega)⟩,
    ⟨S128x128, group i arg2 harg2 arg4 harg4 x0 x2 b (4 * k.val + 3) (by omega)⟩]
    concatenates_S128x128_S128x128_S128x128_S128x128_S128x512_d1

/-- The weights of chunk `k`, dequantized. -/
def weights (k : Fin 32) : FVec F S512x512 .bf16 :=
  concatenate S512x512 0 [⟨S128x512, groupRow i arg2 harg2 arg4 harg4 x0 x2 k 0⟩, ⟨S128x512, groupRow i arg2 harg2 arg4 harg4 x0 x2 k 1⟩,
    ⟨S128x512, groupRow i arg2 harg2 arg4 harg4 x0 x2 k 2⟩, ⟨S128x512, groupRow i arg2 harg2 arg4 harg4 x0 x2 k 3⟩]
    concatenates_S128x512_S128x512_S128x512_S128x512_S512x512_d0

theorem acts_inb (k : Fin 32) : ∀ a, (![0, 512 * k.val] : Fin 2 → ℕ) a + S512x512.size a ≤ S512x16384.size a := by
  have h2 := k.isLt
  intro a
  match a with
  | ⟨0, _⟩ => show 0 + 512 ≤ 512; omega
  | ⟨1, _⟩ => show 512 * k.val + 512 ≤ 16384; omega

/-- The activations of chunk `k`. -/
def acts (k : Fin 32) : FVec F S512x512 .bf16 :=
  shapeCast S512x512 (arg3.view.readAt (Elt F) (Rect.unit (s := S512x16384) ![0, 512 * k.val] S512x512.size (acts_inb k)).toLoadRect
    (harg3.unread x1)) shapeCasts_S512x512_S512x512

/-- The accumulator after the first `n` chunks. -/
def accum : (n : ℕ) → n ≤ 32 → FVec F S512x512 .f32
  | 0, _ => broadcast S512x512 (Scalar.ofBits .f32 0x00000000#32)
  | n + 1, h => addf (accum n (Nat.le_of_succ_le h))
      (matmul dot_S512x512_S512x512_S512x512_1_1_0_0_n_n none (acts arg3 harg3 x1 ⟨n, h⟩)
        (weights i arg2 harg2 arg4 harg4 x0 x2 ⟨n, h⟩) (constant S512x512 .f32 0x00000000#32))

set_option maxHeartbeats 2000000 in
/-- What the body stores is the accumulator after all 32 chunks, in bf16. -/
theorem pieces (c : Dev nD) (arg5 : Memref sig .tc .vmem S512x512 .bf16) (harg5 : arg5.IsWhole) :
    (kernelRun1_A c i arg2 harg2 arg3 harg3 arg4 harg4 arg5 harg5 x0 x1 x2).1
      = [⟨Rect.unit (s := S512x512) ![0, 0] S512x512.size inb_S512x512_S512x512_0_0,
          truncf .bf16 (accum i arg2 harg2 arg3 harg3 arg4 harg4 x0 x1 x2 32 (le_refl 32)) bitsLt_bf16_f32⟩] := by
  sl_kernel_rfl
end Body

section Points
variable (i : grid1.Coords)
variable (arg2 : Memref sig .tc .smem S48x128 .f32) (harg2 : arg2.IsWhole) (arg3 : Memref sig .tc .vmem S512x16384 .bf16)
  (harg3 : arg3.IsWhole) (arg4 : Memref sig .tc .vmem S512x16384 .fp8e4m3) (harg4 : arg4.IsWhole)
variable (x0 : Vec Ideal S48x128 .f32) (x1 : Vec Ideal S512x16384 .bf16) (x2 : Vec Ideal S512x16384 .fp8e4m3)

/-- The three operands' entries as extended reals. -/
abbrev scalesE (x : FVec Ideal S48x128 .f32) : S48x128.Idx → EReal := x
abbrev actsE (x : FVec Ideal S512x16384 .bf16) : S512x16384.Idx → EReal := x
abbrev codesE (x : FVec Ideal S512x16384 .fp8e4m3) : S512x16384.Idx → EReal := x

theorem scaleAt_eq (b : Fin 4) (c : ℕ) (hc : c < 128) (j : S48x128.Idx) (h0 : (j 0 : ℕ) = 4 * (i 1).val + b.val)
    (h1 : (j 1 : ℕ) = c) : scaleAt i arg2 harg2 x0 b c hc = x0 j := by
  unfold scaleAt
  rw [harg2.readAt_unread]
  congr 1
  funext a; apply Fin.ext
  match a with
  | ⟨0, _⟩ =>
    show (Scalar.addi (Scalar.muli (BitVec.ofNat 32 (i 1).val) 4#32) (BitVec.ofNat 32 b.val)).toNat + 1 * 0 = (j 0 : ℕ)
    rw [scaleOff_row]; omega
  | ⟨1, _⟩ => show c + 1 * 0 = (j 1 : ℕ); omega

theorem group_at (b : Fin 4) (c : ℕ) (hc : c < 128) (y : S128x128.Idx) (j : S48x128.Idx) (z : S512x16384.Idx)
    (h0 : (j 0 : ℕ) = 4 * (i 1).val + b.val) (h1 : (j 1 : ℕ) = c) (g0 : (z 0 : ℕ) = 128 * b.val + y 0)
    (g1 : (z 1 : ℕ) = 128 * c + y 1) : group i arg2 harg2 arg4 harg4 x0 x2 b c hc y = codesE x2 z * scalesE x0 j := by
  unfold group
  rw [scaleAt_eq i arg2 harg2 x0 b c hc j h0 h1]
  pointwise
  rw [harg4.readAt_unread]
  congr 2
  funext a; apply Fin.ext
  match a with
  | ⟨0, _⟩ => show 128 * b.val + 1 * (y 0 : ℕ) = (z 0 : ℕ); omega
  | ⟨1, _⟩ => show 128 * c + 1 * (y 1 : ℕ) = (z 1 : ℕ); omega

theorem groupRow_at (k : Fin 32) (b : Fin 4) (y : S128x512.Idx) (j : S48x128.Idx) (z : S512x16384.Idx)
    (h0 : (j 0 : ℕ) = 4 * (i 1).val + b.val) (h1 : (j 1 : ℕ) = 4 * k.val + (y 1 : ℕ) / 128)
    (g0 : (z 0 : ℕ) = 128 * b.val + y 0) (g1 : (z 1 : ℕ) = 512 * k.val + y 1) :
    groupRow i arg2 harg2 arg4 harg4 x0 x2 k b y = codesE x2 z * scalesE x0 j := by
  have hk := k.isLt
  have hy : (y 1 : ℕ) < 512 := (y 1).isLt
  pointwise [groupRow]
  split_ifs <;> refine group_at i arg2 harg2 arg4 harg4 x0 x2 _ _ _ _ j z h0 ?_ g0 ?_ <;>
    (try dsimp [ix2]) <;> omega

theorem weights_at (k : Fin 32) (y : S512x512.Idx) (j : S48x128.Idx) (z : S512x16384.Idx)
    (h0 : (j 0 : ℕ) = 4 * (i 1).val + (y 0 : ℕ) / 128) (h1 : (j 1 : ℕ) = 4 * k.val + (y 1 : ℕ) / 128)
    (g0 : (z 0 : ℕ) = y 0) (g1 : (z 1 : ℕ) = 512 * k.val + y 1) :
    weights i arg2 harg2 arg4 harg4 x0 x2 k y = codesE x2 z * scalesE x0 j := by
  have hy : (y 0 : ℕ) < 512 := (y 0).isLt
  pointwise [weights]
  split_ifs <;> refine groupRow_at i arg2 harg2 arg4 harg4 x0 x2 _ _ _ j z ?_ ?_ ?_ ?_ <;>
    (try dsimp [ix2]) <;> omega

theorem acts_at (k : Fin 32) (y : S512x512.Idx) (z : S512x16384.Idx) (g0 : (z 0 : ℕ) = y 0)
    (g1 : (z 1 : ℕ) = 512 * k.val + y 1) : acts arg3 harg3 x1 k y = actsE x1 z := by
  unfold acts
  pointwise
  rw [harg3.readAt_unread]
  congr 1
  funext a; apply Fin.ext
  match a with
  | ⟨0, _⟩ => show 0 + 1 * (y 0 : ℕ) = (z 0 : ℕ); omega
  | ⟨1, _⟩ => show 512 * k.val + 1 * (y 1 : ℕ) = (z 1 : ℕ); omega

/-- The term of column `l` in the product at row `r`, column `q` of this grid point's block. -/
def term (r q : Fin 512) (l : Fin 16384) : EReal :=
  actsE x1 (ix2 r l) * (codesE x2 (ix2 q l) * scalesE x0 (ix2 ⟨4 * (i 1).val + q.val / 128, by
    have : (i 1).val < 12 := (i 1).isLt
    omega⟩ ⟨l.val / 128, by omega⟩))

theorem accum_at (y : S512x512.Idx) (n : ℕ) (h : n ≤ 32) :
    accum i arg2 harg2 arg3 harg3 arg4 harg4 x0 x1 x2 n h y
      = ∑ k : Fin n, ∑ l : Fin 512, term i x0 x1 x2 (y 0) (y 1) ⟨k.val * 512 + l.val, by omega⟩ := by
  induction n with
  | zero => pointwise [accum]; rfl
  | succ n ih =>
    unfold accum
    pointwise
    rw [ih, Fin.sum_univ_castSucc (n := n)]
    congr 1
    refine Finset.sum_congr rfl fun l _ => ?_
    have hi : (i 1).val < 12 := (i 1).isLt
    have hy : (y 1).val < 512 := (y 1).isLt
    have hl : n * 512 + l.val < 16384 := by omega
    rw [acts_at arg3 harg3 x1 ⟨n, h⟩ (ix2 (y 0) l) (ix2 (y 0) ⟨n * 512 + l.val, hl⟩) rfl (by dsimp [ix2]; omega),
      weights_at i arg2 harg2 arg4 harg4 x0 x2 ⟨n, h⟩ (ix2 (y 1) l)
        (ix2 ⟨4 * (i 1).val + (y 1).val / 128, by omega⟩ ⟨(n * 512 + l.val) / 128, by omega⟩)
        (ix2 (y 1) ⟨n * 512 + l.val, hl⟩) rfl (by dsimp [ix2]; omega) rfl (by dsimp [ix2]; omega)]
    rfl

theorem out_eq (c : Dev nD) (arg5 : Memref sig .tc .vmem S512x512 .bf16) (harg5 : arg5.IsWhole) :
   out1_A_3 c i arg2 harg2 arg3 harg3 arg4 harg4 arg5 harg5 x0 x1 x2 =
    truncf .bf16 (accum i arg2 harg2 arg3 harg3 arg4 harg4 x0 x1 x2 32 (le_refl 32)) bitsLt_bf16_f32 := by
  rw [out1_A_3, pieces]
  frame_out

/-- What the body leaves in the output block: at each entry the product of a row of activations and a row of weights. -/
theorem out_at (c : Dev nD) (arg5 : Memref sig .tc .vmem S512x512 .bf16) (harg5 : arg5.IsWhole) (y : S512x512.Idx) :
    out1_A_3 c i arg2 harg2 arg3 harg3 arg4 harg4 arg5 harg5 x0 x1 x2 y = ∑ l : Fin 16384, term i x0 x1 x2 (y 0) (y 1) l := by
  rw [out_eq]
  pointwise
  rw [accum_at]
  exact Fin.sum_mul_add_fin 32 512 (fun l => term i x0 x1 x2 (y 0) (y 1) l)
end Points

variable (V : (c : Dev nD) → (b : Ref sig .tc) → Buf (Elt Ideal) ((c : Thread nD τ).loc b))

/-- The windows' block indices at every grid point. -/
theorem idx : ∀ t : Fin cfg1.N, win1_0.index t = ![0, 0] ∧ win1_1.index t = ![(grid1.coords t 0).val, 0]
    ∧ win1_2.index t = ![(grid1.coords t 1).val, 0] ∧ win1_3.index t = ![(grid1.coords t 0).val, (grid1.coords t 1).val] :=
  (by decide +kernel : ∀ t : Fin grid1.N, _)

/-- The product as a function of the three argument arrays. -/
def yA (x : FVec Ideal S16384x16384 .bf16) (w : FVec Ideal S6144x16384 .fp8e4m3) (s : FVec Ideal S48x128 .f32) :
    FVec Ideal S16384x6144 .bf16 := fun j => ∑ l : Fin 16384, (show EReal from x (ix2 (j 0) l)) * ((show EReal from w (ix2 (j 1) l)) *
      (show EReal from s (ix2 ⟨(j 1).val / 128, by have : (j 1).val < 6144 := (j 1).isLt; omega⟩ ⟨l.val / 128, by omega⟩)))

/-- Entry (`r`, `l`) of the activations' block is entry (`512 * row + r`, `l`) of the array. -/
theorem acts_blk (c : Dev nD) (t : Fin cfg1.N) (r : Fin 512) (l : Fin 16384) (j : S16384x16384.Idx)
    (h0 : (j 0 : ℕ) = (grid1.coords t 0).val * 512 + r.val) (h1 : (j 1 : ℕ) = l.val) :
    actsE (iblk1 V c 1 t) (ix2 r l) = V c main_v2_2 j := by
  show iblk1 V c 1 t (ix2 r l) = _
  blk_ext [iblk1, idx t]

theorem codes_blk (c : Dev nD) (t : Fin cfg1.N) (r : Fin 512) (l : Fin 16384) (j : S6144x16384.Idx)
    (h0 : (j 0 : ℕ) = (grid1.coords t 1).val * 512 + r.val) (h1 : (j 1 : ℕ) = l.val) :
    codesE (iblk1 V c 2 t) (ix2 r l) = V c main_arg2 j := by
  show iblk1 V c 2 t (ix2 r l) = _
  blk_ext [iblk1, idx t]

theorem scales_blk (c : Dev nD) (t : Fin cfg1.N) (j' j : S48x128.Idx) (h0 : (j 0 : ℕ) = j' 0) (h1 : (j 1 : ℕ) = j' 1) :
    scalesE (iblk1 V c 0 t) j' = V c main_arg3 j := by
  show iblk1 V c 0 t j' = _
  blk_ext [iblk1, idx t]

theorem point (c : Dev nD) (t : Fin cfg1.N) (y : S512x512.Idx) (j : S16384x6144.Idx)
    (h0 : (j 0 : ℕ) = (grid1.coords t 0).val * 512 + (y 0).val) (h1 : (j 1 : ℕ) = (grid1.coords t 1).val * 512 + (y 1).val) :
    outsAt1 V c t y = yA (V c main_v2_2) (V c main_arg2) (V c main_arg3) j := by
  unfold outsAt1
  rw [out_at]
  unfold yA
  refine Fin.sum_fin_congr fun l => ?_
  unfold term
  rw [acts_blk V c t (y 0) l (ix2 (j 0) l) h0 rfl, codes_blk V c t (y 1) l (ix2 (j 1) l) h1 rfl, scales_blk V c t]
  · dsimp [ix2]; omega
  · rfl

theorem final (c : Dev nD) : (dat1 V c).arrAt 3 cfg1.N = yA (V c main_v2_2) (V c main_arg2) (V c main_arg3) := by
  refine (dat1 V c).arrAt_eq_of_covers 3 _ (by decide +kernel) fun t _ y => ?_
  blk_simp
  rw [after1_3]
  refine point V c t y _ ?_ ?_
  · blk_simp [idx t]
  · blk_simp [idx t]
end Cert.KernelIdeal.Product

end
-- ==== Proof.RefValue.lean ====
/- The reference's three results read at an entry. -/
module

public import proofs.«01_k».proof.Proof.Gen.ReferenceIdeal.Value
public import proofs.«01_k».proof.Proof.Spec
public import Idealize.ShloMosaic.Lib.Pipeline.ValueKit
public import Idealize.ShloMosaic.PureOps.Ideal.Laws

@[expose] public section

set_option maxRecDepth 16384

noncomputable section

open Idealize.ShloMosaic Idealize.ShloMosaic.TcCoe Idealize.SL.Sem
namespace Cert.ReferenceIdeal.Read
open Cert.ReferenceIdeal Cert.ReferenceIdeal.Gen

variable (x : FVec Ideal S2x8192x16384 .bf16) (g : FVec Ideal S16384 .f32)

/-- A row of the activations, and the gains. -/
def row (b : Fin 2) (r : Fin 8192) (l : Fin 16384) : EReal := x (ix3 b r l)
def gains (l : Fin 16384) : EReal := g (ix1 l)

theorem pay3_at (j : S2x8192x128x128.Idx) :
    k0_pay3 (F := Ideal) x g j = Spec.nval (row x (j 0) (j 1)) (gains g) (Spec.at2 (j 2) (j 3)) := by
  pointwise [k0_pay3]
  rfl

/-- The largest magnitude along the last axis. -/
theorem amax_at (n : FVec Ideal S2x8192x128x128 .f32) (j : S2x8192x128.Idx) :
    multiReduction (F := Ideal) .maximumf [3] S2x8192x128 (absf n) 0xFF800000#32 reduces_S2x8192x128x128_S2x8192x128 (.inl rfl) rfl j
      = (Finset.univ : Finset (Fin 128)).fold max (Ideal.ofBits .f32 0xFF800000#32)
        (fun k => max (show EReal from n (ix4 (j 0) (j 1) (j 2) k)) (-(show EReal from n (ix4 (j 0) (j 1) (j 2) k)))) := by
  refine (Ideal.multiReduction_maximumf_single (φ := .f32) _ _ _ _ _ j).trans ?_
  have e : ∀ k : Fin 128, reduces_S2x8192x128x128_S2x8192x128.lift j k = ix4 (j 0) (j 1) (j 2) k := by
    intro k
    funext a
    match a with
    | ⟨0, _⟩ => rfl
    | ⟨1, _⟩ => rfl
    | ⟨2, _⟩ => rfl
    | ⟨3, _⟩ => rfl
  refine congrArg (fun f => Finset.fold max (Ideal.ofBits .f32 0xFF800000#32) f (Finset.univ : Finset (Fin 128))) (funext fun k => ?_)
  show (show EReal from absf n (reduces_S2x8192x128x128_S2x8192x128.lift j k)) = _
  rw [e k]
  rfl

/-- The exponent's formula at an entry, whatever its constants. -/
theorem exponent_at (c0 c1 c2 c3 c4 : BitVec 32) (v : FVec Ideal S2x8192x128 .f32) (j : S2x8192x128.Idx) (A : EReal) (hA : v j = A) :
    select (cmpf .olt (mulf v (broadcast S2x8192x128 (Scalar.ofBits .f32 c0))) (broadcast S2x8192x128 (Scalar.ofBits .f32 c1)))
      (broadcast S2x8192x128 (Scalar.ofBits .f32 c2))
      (addf (floor (divf (log (mulf v (broadcast S2x8192x128 (Scalar.ofBits .f32 c0)))) (broadcast S2x8192x128 (Scalar.log (Scalar.ofBits .f32 c3)))))
        (broadcast S2x8192x128 (Scalar.ofBits (F := Ideal) .f32 c4))) j
      = Scalar.select (Ideal.cmp .olt (A * Ideal.ofBits .f32 c0) (Ideal.ofBits .f32 c1)) (Ideal.ofBits .f32 c2)
        (Ideal.liftRound Int.floor (Ideal.div (Ideal.log (A * Ideal.ofBits .f32 c0)) (Ideal.log (Ideal.ofBits .f32 c3))) + Ideal.ofBits .f32 c4) := by
  subst hA
  rfl

theorem pay4_at (j : S2x8192x128.Idx) :
    k0_pay4 (F := Ideal) x g j = Pow2.expo (Spec.tq (row x (j 0) (j 1)) (gains g) (j 2)) := by
  unfold k0_pay4
  refine (exponent_at _ _ _ _ _ _ j _ (amax_at (k0_pay3 x g) j)).trans ?_
  rw [Pow2.expo_words]
  simp only [pay3_at]
  rfl

theorem exp2_at (v : FVec Ideal S2x8192x128 .f32) (j : S2x8192x128.Idx) (A : EReal) (hA : v j = A) :
    exp2 (F := Ideal) v j = Ideal.exp2 A := by
  subst hA; rfl

/-- The scales. -/
theorem pay5_at (j : S2x8192x128.Idx) : k0_pay5 (F := Ideal) x g j = Spec.scale (row x (j 0) (j 1)) (gains g) (j 2) :=
  exp2_at _ j _ (pay4_at x g j)

theorem bc_at {φ : FTy} (v : FVec Ideal S2x8192x128x1 φ) (j : S2x8192x128x128.Idx) :
    broadcastTo S2x8192x128x128 v broadcasts_S2x8192x128x1_S2x8192x128x128 j = v (ix4 (j 0) (j 1) (j 2) 0) := by
  pointwise

theorem sc_at {φ : FTy} (v : FVec Ideal S2x8192x128 φ) (j : S2x8192x128x1.Idx) :
    shapeCast S2x8192x128x1 v shapeCasts_S2x8192x128_S2x8192x128x1 j = v (ix3 (j 0) (j 1) (j 2)) := by
  pointwise

/-- The codes' formula at an entry, whatever its constants. -/
theorem clip_at (c0 c1 c2 : BitVec 32) (n : FVec Ideal S2x8192x128x128 .f32) (e : FVec Ideal S2x8192x128 .f32) (j : S2x8192x128x128.Idx)
    (N E : EReal) (hN : n j = N) (hE : e (ix3 (j 0) (j 1) (j 2)) = E) :
    truncf .fp8e4m3 (minimumf (broadcast S2x8192x128x128 (Scalar.ofBits .f32 c1)) (maximumf (broadcast S2x8192x128x128 (Scalar.ofBits .f32 c0))
      (mulf n (broadcastTo S2x8192x128x128 (shapeCast S2x8192x128x1 (exp2 (subf (broadcast S2x8192x128 (Scalar.ofBits (F := Ideal) .f32 c2)) e))
        shapeCasts_S2x8192x128_S2x8192x128x1) broadcasts_S2x8192x128x1_S2x8192x128x128)))) bitsLt_fp8e4m3_f32 j
    = min (Ideal.ofBits .f32 c1) (max (Ideal.ofBits .f32 c0) (N * Ideal.exp2 (Ideal.ofBits .f32 c2 - E))) := by
  subst hN hE
  show min _ (max _ (_ * broadcastTo (α := Ideal .f32) S2x8192x128x128 _ _ j)) = _
  rw [bc_at, sc_at]
  rfl

theorem pay6_at (j : S2x8192x128x128.Idx) :
    k0_pay6 (F := Ideal) x g j = Spec.code (row x (j 0) (j 1)) (gains g) (Spec.at2 (j 2) (j 3)) := by
  unfold k0_pay6
  refine (clip_at _ _ _ _ _ j _ _ (pay3_at x g j) (pay4_at x g _)).trans ?_
  unfold Spec.code
  rw [Pow2.zero_word, show Spec.grp (Spec.at2 (j 2) (j 3)) = j 2 from Fin.ext (by
    have h3 : (j 3 : ℕ) < 128 := (j 3).isLt
    show ((j 2 : ℕ) * 128 + (j 3 : ℕ)) / 128 = j 2; omega)]
  rfl

variable (w : FVec Ideal S6144x16384 .fp8e4m3) (s : FVec Ideal S48x128 .f32)

theorem pay7_eq : k0_pay7 (F := Ideal) x g w s = k0_pay5 x g := by
  exact congrArg₂ k0_pay5 (View.ld_unit_zero (S := S2x8192x16384) (Val := Elt Ideal) (e := .bf16) Value.hz0 inb_S2x8192x16384_S2x8192x16384_0_0_0 x)
    (View.ld_unit_zero (S := S16384) (Val := Elt Ideal) (e := .f32) Value.hz1 inb_S16384_S16384_0 g)

theorem pay8_eq : k0_pay8 (F := Ideal) x g w s = k0_pay6 x g := by
  exact congrArg₂ k0_pay6 (View.ld_unit_zero (S := S2x8192x16384) (Val := Elt Ideal) (e := .bf16) Value.hz0 inb_S2x8192x16384_S2x8192x16384_0_0_0 x)
    (View.ld_unit_zero (S := S16384) (Val := Elt Ideal) (e := .f32) Value.hz1 inb_S16384_S16384_0 g)

theorem G6_at (j : S2x8192x128.Idx) : Value.G6 (F := Ideal) x g w s j = Spec.scale (row x (j 0) (j 1)) (gains g) (j 2) := by
  unfold Value.G6
  rw [pay7_eq, pay5_at]

theorem pay1_at (v : FVec Ideal S2x8192x128x128 .fp8e4m3) (j : S2x8192x16384.Idx) :
    k0_pay1 v j = v (ix4 (j 0) (j 1) (Spec.grp (j 2)) ⟨(j 2).val % 128, Nat.mod_lt _ (by omega)⟩) := by
  pointwise [k0_pay1]

theorem at2_grp (l : Fin 16384) : Spec.at2 (Spec.grp l) ⟨l.val % 128, Nat.mod_lt _ (by omega)⟩ = l :=
  Fin.ext (by show l.val / 128 * 128 + l.val % 128 = l.val; omega)

/-- The codes. -/
theorem G5_at (j : S2x8192x16384.Idx) : Value.G5 (F := Ideal) x g w s j = Spec.code (row x (j 0) (j 1)) (gains g) (j 2) := by
  unfold Value.G5
  rw [pay8_eq, pay1_at, pay6_at]
  exact congrArg _ (at2_grp (j 2))

theorem pay2_at (v : FVec Ideal S2x8192x128 .f32) (q : FVec Ideal S2x8192x128x128 .fp8e4m3) (j : S2x8192x6144.Idx) :
    k0_pay2 v q w s j = ∑ l : Fin 16384, ((show EReal from q (ix4 (j 0) (j 1) (Spec.grp l) ⟨l.val % 128, Nat.mod_lt _ (by omega)⟩))
      * (show EReal from v (ix3 (j 0) (j 1) (Spec.grp l)))) * ((show EReal from w (ix2 (j 2) l)) *
      (show EReal from s (ix2 ⟨(j 2).val / 128, by have : (j 2).val < 6144 := (j 2).isLt; omega⟩ (Spec.grp l)))) := by
  pointwise [k0_pay2, k0_pay1]

/-- The product. -/
theorem G4_at (j : S2x8192x6144.Idx) : Value.G4 (F := Ideal) x g w s j
    = ∑ l : Fin 16384, Spec.deq (row x (j 0) (j 1)) (gains g) l * ((show EReal from w (ix2 (j 2) l)) *
      (show EReal from s (ix2 ⟨(j 2).val / 128, by have : (j 2).val < 6144 := (j 2).isLt; omega⟩ (Spec.grp l)))) := by
  unfold Value.G4
  rw [pay7_eq, pay8_eq, pay2_at]
  refine Finset.sum_congr rfl fun l _ => ?_
  rw [pay6_at, pay5_at]
  exact congrArg (· * _) (congrArg (· * _) (congrArg (Spec.code (row x (j 0) (j 1)) (gains g)) (at2_grp l)))

end Cert.ReferenceIdeal.Read

end
-- ==== Proof.KernelRun.lean ====
/- The kernel's run with its results: from the arguments' reshapes through both kernels to the results' reshapes, each result
   array at the reference's function of the arguments. -/
module

public import proofs.«01_k».proof.Proof.QuantArrays
public import proofs.«01_k».proof.Proof.MatmulValue
public import proofs.«01_k».proof.Proof.RefValue

@[expose] public section

set_option maxRecDepth 16384

noncomputable section

open Idealize.ShloMosaic Idealize.ShloMosaic.TcCoe Idealize.SL.Sem
open Idealize.SL Idealize.SL.RA Idealize.SL.BI Idealize.ShloMosaic.Tactic
open scoped Idealize.SL.BI
open Idealize.SL.BI.BIBase Idealize.SL.BI.Laws Idealize.SL.ProofMode
open Idealize.ShloMosaic.Rounds
open Idealize.ShloMosaic.Pipeline (Dat Cfg Window BodyObligation cellOf)
namespace Cert.KernelIdeal.Run
open Cert.KernelIdeal Cert.KernelIdeal.Gen

/-! ## The reshapes around the two kernels -/

section Reshapes
/-- Row (`b`, `r`) of the three-dimensional arrays as a row of the two-dimensional ones. -/
def flat (b : Fin 2) (r : Fin 8192) : Fin 16384 := ⟨b.val * 8192 + r.val, by omega⟩

theorem split_y (v : FVec Ideal S16384x6144 .bf16) (j : S2x8192x6144.Idx) :
    shapeCast S2x8192x6144 v shapeCasts_S16384x6144_S2x8192x6144 j = v (ix2 (flat (j 0) (j 1)) (j 2)) := by
  pointwise
  rfl

theorem split_codes (v : FVec Ideal S16384x16384 .fp8e4m3) (j : S2x8192x16384.Idx) :
    shapeCast S2x8192x16384 v shapeCasts_S16384x16384_S2x8192x16384 j = v (ix2 (flat (j 0) (j 1)) (j 2)) := by
  pointwise
  rfl

theorem split_scale (v : FVec Ideal S16384x128 .f32) (j : S2x8192x128.Idx) :
    shapeCast S2x8192x128 v shapeCasts_S16384x128_S2x8192x128 j = v (ix2 (flat (j 0) (j 1)) (j 2)) := by
  pointwise
  rfl

theorem join_x (x : FVec Ideal S2x8192x16384 .bf16) (b : Fin 2) (r : Fin 8192) :
    Quant.rowA (shapeCast S16384x16384 x shapeCasts_S2x8192x16384_S16384x16384) (flat b r) = Cert.ReferenceIdeal.Read.row x b r := by
  funext l
  unfold Quant.rowA Cert.ReferenceIdeal.Read.row
  pointwise
  refine congrArg x ?_
  funext a; apply Fin.ext
  match a with
  | ⟨0, _⟩ => show (b.val * 8192 + r.val) / 8192 = b.val; omega
  | ⟨1, _⟩ => show (b.val * 8192 + r.val) % 8192 = r.val; omega
  | ⟨2, _⟩ => rfl

theorem join_g (g : FVec Ideal S16384 .f32) :
    Quant.gainsA (shapeCast S1x16384 g shapeCasts_S16384_S1x16384) = Cert.ReferenceIdeal.Read.gains g := by
  funext l
  unfold Quant.gainsA Cert.ReferenceIdeal.Read.gains
  pointwise
end Reshapes

/-! ## The buffers at the end of the run -/

section Ends
variable (m : (ℓ : Loc nD τ sig) → Buf (Elt Ideal) ℓ) (ρ : Dev nD → PrngReg) (c : Dev nD)

abbrev argX : FVec Ideal S2x8192x16384 .bf16 := m ((c : Thread nD τ).loc main_arg0)
abbrev argG : FVec Ideal S16384 .f32 := m ((c : Thread nD τ).loc main_arg1)
abbrev argW : FVec Ideal S6144x16384 .fp8e4m3 := m ((c : Thread nD τ).loc main_arg2)
abbrev argS : FVec Ideal S48x128 .f32 := m ((c : Thread nD τ).loc main_arg3)

theorem entry_x : V1 m ρ c main_v0 = shapeCast S16384x16384 (argX m c) shapeCasts_S2x8192x16384_S16384x16384 := by
  show StableHlo.after hostOps0 (W0 m ρ c) (Proc.devRef .tc main_v0) = _
  after_results
  rfl

theorem entry_g : V1 m ρ c main_v1 = shapeCast S1x16384 (argG m c) shapeCasts_S16384_S1x16384 := by
  show StableHlo.after hostOps0 (W0 m ρ c) (Proc.devRef .tc main_v1) = _
  after_results
  rfl

theorem exit_y : W4 m ρ c (Proc.devRef .tc main_v4)
    = shapeCast S2x8192x6144 (W3 m ρ c (Proc.devRef .tc main_v3)) shapeCasts_S16384x6144_S2x8192x6144 := by
  show StableHlo.after hostOps2 (W3 m ρ c) (Proc.devRef .tc main_v4) = _
  after_results
  rfl

theorem exit_codes : W4 m ρ c (Proc.devRef .tc main_v5)
    = shapeCast S2x8192x16384 (W3 m ρ c (Proc.devRef .tc main_v2_0)) shapeCasts_S16384x16384_S2x8192x16384 := by
  show StableHlo.after hostOps2 (W3 m ρ c) (Proc.devRef .tc main_v5) = _
  after_results
  rfl

theorem exit_scale : W4 m ρ c (Proc.devRef .tc main_v6)
    = shapeCast S2x8192x128 (W3 m ρ c (Proc.devRef .tc main_v2_1)) shapeCasts_S16384x128_S2x8192x128 := by
  show StableHlo.after hostOps2 (W3 m ρ c) (Proc.devRef .tc main_v6) = _
  after_results
  rfl

variable (hg : ∀ i : S16384.Idx, max (show EReal from argG m c i) (-(show EReal from argG m c i)) ≤ Pow2.two 127)
include hg

theorem gains_ok : ∀ l, max (Quant.gainsA (V1 m ρ c main_v1) l) (-Quant.gainsA (V1 m ρ c main_v1) l) ≤ Pow2.two 127 := by
  rw [entry_g, join_g]
  exact fun l => hg (ix1 l)

theorem codes_arr : W3 m ρ c (Proc.devRef .tc main_v2_0) = Quant.codesA (V1 m ρ c main_v0) (V1 m ρ c main_v1) :=
  (W3_of m ρ c main_v2_0 (by decide +kernel)).trans ((W2_arr m ρ c 2).trans (Quant.codes_final (V1 m ρ) c (gains_ok m ρ c hg)))

theorem scale_arr : W3 m ρ c (Proc.devRef .tc main_v2_1) = Quant.scaleA (V1 m ρ c main_v0) (V1 m ρ c main_v1) :=
  (W3_of m ρ c main_v2_1 (by decide +kernel)).trans ((W2_arr m ρ c 3).trans (Quant.scale_final (V1 m ρ) c (gains_ok m ρ c hg)))

theorem xq_arr : V2 m ρ c main_v2_2 = Quant.xqA (V1 m ρ c main_v0) (V1 m ρ c main_v1) :=
  (W2_arr m ρ c 4).trans (Quant.xq_final (V1 m ρ) c (gains_ok m ρ c hg))

theorem y_arr : W3 m ρ c (Proc.devRef .tc main_v3)
    = Product.yA (Quant.xqA (V1 m ρ c main_v0) (V1 m ρ c main_v1)) (argW m c) (argS m c) := by
  refine (W3_arr m ρ c 3).trans ((Product.final (V2 m ρ) c).trans ?_)
  rw [xq_arr m ρ c hg]
  exact congrArg₂ _ (W2_args m ρ c main_arg2 (by decide)) (W2_args m ρ c main_arg3 (by decide))

theorem codes_eq : W4 m ρ c (Proc.devRef .tc main_v5)
    = Cert.ReferenceIdeal.Value.G5 (F := Ideal) (argX m c) (argG m c) (argW m c) (argS m c) := by
  rw [exit_codes, codes_arr m ρ c hg]
  funext j
  refine (split_codes _ j).trans (Eq.trans ?_ (Cert.ReferenceIdeal.Read.G5_at _ _ _ _ j).symm)
  show Spec.code (Quant.rowA (V1 m ρ c main_v0) (flat (j 0) (j 1))) (Quant.gainsA (V1 m ρ c main_v1)) (j 2) = _
  rw [entry_x, entry_g]
  exact congrArg₂ (fun r g => Spec.code r g (j 2)) (join_x _ _ _) (join_g _)

theorem scale_eq : W4 m ρ c (Proc.devRef .tc main_v6)
    = Cert.ReferenceIdeal.Value.G6 (F := Ideal) (argX m c) (argG m c) (argW m c) (argS m c) := by
  rw [exit_scale, scale_arr m ρ c hg]
  funext j
  refine (split_scale _ j).trans (Eq.trans ?_ (Cert.ReferenceIdeal.Read.G6_at _ _ _ _ j).symm)
  show Spec.scale (Quant.rowA (V1 m ρ c main_v0) (flat (j 0) (j 1))) (Quant.gainsA (V1 m ρ c main_v1)) (j 2) = _
  rw [entry_x, entry_g]
  exact congrArg₂ (fun r g => Spec.scale r g (j 2)) (join_x _ _ _) (join_g _)

theorem y_eq : W4 m ρ c (Proc.devRef .tc main_v4)
    = Cert.ReferenceIdeal.Value.G4 (F := Ideal) (argX m c) (argG m c) (argW m c) (argS m c) := by
  rw [exit_y, y_arr m ρ c hg]
  funext j
  refine (split_y _ j).trans (Eq.trans ?_ (Cert.ReferenceIdeal.Read.G4_at _ _ _ _ j).symm)
  refine Finset.sum_congr rfl fun l _ => ?_
  refine congrArg (· * _) ?_
  show Spec.deq (Quant.rowA (V1 m ρ c main_v0) (flat (j 0) (j 1))) (Quant.gainsA (V1 m ρ c main_v1)) l = _
  rw [entry_x, entry_g]
  exact congrArg₂ (fun r g => Spec.deq r g (l)) (join_x _ _ _) (join_g _)

end Ends

/-! ## The run -/

section Launch
variable (m : (ℓ : Loc nD τ sig) → Buf (Elt Ideal) ℓ) (ρ : Dev nD → PrngReg)

local notation "𝕄" => MT nD τ sig Unit (Elt Ideal) ℕ (UR sig nD τ) ℕ

set_option backward.isDefEq.respectTransparency.types false in
/-- The kernel's run from any memory: it terminates, its three results end at the last boundary's contents, its arguments
    unchanged. -/
theorem run : θ_run (defs (F := Ideal)) (onTc (τ := τ) (main (F := Ideal))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_v5) = W4 m ρ c (Proc.devRef .tc main_v5)
      ∧ r.2.mem ((c.tc : Thread nD τ).loc main_v6) = W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨h c _ (mem_uc main_v4 (by decide)), h c _ (mem_uc main_v5 (by decide)), h c _ (mem_uc main_v6 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)
end Launch

end Cert.KernelIdeal.Run

end
-- ==== Proof.Gains.lean ====
/- The precondition read at an entry: no gain is larger than 2^127 in absolute value. -/
module

public import proofs.«01_k».proof.Pre_gains_in_range
public import proofs.«01_k».proof.Proof.Pow2
public import Idealize.ShloMosaic.Lib.Pipeline.ValueKit
public import Idealize.ShloMosaic.Lib.ReduceAll

@[expose] public section

set_option maxRecDepth 16384

noncomputable section

open Idealize.ShloMosaic
namespace Cert.Pre_gains_in_range

theorem hfacts : Facts where
  bcast_S_S16384 := by decide
  reducesTo_S16384_S_d0 := by decide
  h_S_ := by decide

theorem two_word : Ideal.ofBits .f32 0x7F000000#32 = Pow2.two 127 := by
  rw [show (0x7F000000#32 : BitVec 32) = Pow2.word 254 by decide +kernel, Pow2.ofBits_word _ (by omega)]; rfl

/-- The comparison at an entry. -/
theorem le_at (hb : S_.BroadcastsInDim S16384 (![] : Fin 0 → Fin S16384.rank)) (g : FVec Ideal S16384 .f32) (c : BitVec 32) (i : S16384.Idx)
    (h : cmpf .ole (Host.absf g) (broadcastInDim S16384 ![] hb (constant (F := Ideal) S_ .f32 c)) i = 1#1) :
    max (show EReal from g i) (-(show EReal from g i)) ≤ Ideal.ofBits .f32 c := by
  by_contra hn
  revert h
  show BitVec.ofBool (decide (max (show EReal from g i) (-(show EReal from g i)) ≤ Ideal.ofBits .f32 c)) = 1#1 → False
  rw [decide_eq_false hn]
  decide

variable [Facts]

theorem gains_le (x : FVec Ideal S2x8192x16384 .bf16) (g : FVec Ideal S16384 .f32) (w : FVec Ideal S6144x16384 .fp8e4m3)
    (s : FVec Ideal S48x128 .f32) (h : fn (F := Ideal) x g w s = fun _ => 1#1) (i : S16384.Idx) :
    max (show EReal from g i) (-(show EReal from g i)) ≤ Pow2.two 127 := by
  rw [← two_word]
  refine le_at Facts.bcast_S_S16384 g _ i ?_
  exact Host.reduce_andi_all _ _ _ _ (ix0) (congrFun h ix0) i

end Cert.Pre_gains_in_range

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Value
public import proofs.«01_k».proof.Proof.KernelRun
public import proofs.«01_k».proof.Proof.Gains

@[expose] public section

set_option maxRecDepth 16384

noncomputable section

namespace Cert.Proof

open Idealize.ShloMosaic Idealize.SL.Sem

/-- Equal arguments, equal results of the reference. -/
theorem congr4 {A B C D E : Type} (f : A → B → C → D → E) {a a' : A} {b b' : B} {c c' : C} {d d' : D} (ha : a = a') (hb : b = b')
    (hc : c = c') (hd : d = d') : f a b c d = f a' b' c' d' := by
  subst ha hb hc hd; rfl

theorem algebraic : Cert.algebraic_KernelIdeal_ReferenceIdeal_pre_gains_in_range (hKernelIdeal := Cert.KernelIdeal.Gen.facts)
    (hReferenceIdeal := Cert.ReferenceIdeal.Gen.facts) (hPre_gains_in_range := Cert.Pre_gains_in_range.hfacts) := by
  intro m g m' g' hpre hagree
  have hg := fun c => @Cert.Pre_gains_in_range.gains_le Cert.Pre_gains_in_range.hfacts _ _ _ _ (hpre c)
  refine ⟨fun c => Cert.ReferenceIdeal.Value.G4 (F := Ideal) (Cert.KernelIdeal.Run.argX m c) (Cert.KernelIdeal.Run.argG m c)
      (Cert.KernelIdeal.Run.argW m c) (Cert.KernelIdeal.Run.argS m c),
    fun c => Cert.ReferenceIdeal.Value.G5 (F := Ideal) (Cert.KernelIdeal.Run.argX m c) (Cert.KernelIdeal.Run.argG m c)
      (Cert.KernelIdeal.Run.argW m c) (Cert.KernelIdeal.Run.argS m c),
    fun c => Cert.ReferenceIdeal.Value.G6 (F := Ideal) (Cert.KernelIdeal.Run.argX m c) (Cert.KernelIdeal.Run.argG m c)
      (Cert.KernelIdeal.Run.argW m c) (Cert.KernelIdeal.Run.argS m c), (θ_run _ _ _).mono (fun r h c => ?_) (Cert.KernelIdeal.Run.run m g),
    (θ_run _ _ _).mono (fun r h c => ?_) (Cert.ReferenceIdeal.Value.run m' g')⟩
  · obtain ⟨h4, h5, h6, h0, h1, h2, h3⟩ := h c
    exact ⟨h4.trans (Cert.KernelIdeal.Run.y_eq m g c (hg c)), h5.trans (Cert.KernelIdeal.Run.codes_eq m g c (hg c)),
      h6.trans (Cert.KernelIdeal.Run.scale_eq m g c (hg c)), h0, h1, h2, h3⟩
  · obtain ⟨h4, h5, h6, h0, h1, h2, h3⟩ := h c
    obtain ⟨a0, a1, a2, a3⟩ := hagree c
    exact ⟨h4.trans (congr4 _ a0 a1 a2 a3), h5.trans (congr4 _ a0 a1 a2 a3), h6.trans (congr4 _ a0 a1 a2 a3), h0, h1, h2, h3⟩

theorem claim : Cert.Claim := ⟨Cert.Kernel.Gen.facts, Cert.KernelIdeal.Gen.facts, Cert.ReferenceIdeal.Gen.facts,
  Cert.Pre_gains_in_range.hfacts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
